-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_softcap" .f32 0x3CA3D70A#32 ((1 / 50 : ℝ) : EReal)
  ∧ IdealRules.named_const.Statement Cert.KernelIdeal.κ "softcap_log2e" .f32 0x429044FE#32 ((50 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v17)) (v5 : (c : Dev Cert.KernelIdeal.nD) → Buf (Elt Ideal) ((c.tc : Thread Cert.KernelIdeal.nD Cert.KernelIdeal.τ).loc Cert.KernelIdeal.main_v18)) (v6 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_v18) = v5 c
          ∧ r.2.mem ((c.tc : Thread Cert.KernelIdeal.nD Cert.KernelIdeal.τ).loc Cert.KernelIdeal.main_v20) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_v160) = v3 c
          ∧ r.2.mem ((c.tc : Thread Cert.ReferenceIdeal.nD Cert.ReferenceIdeal.τ).loc Cert.ReferenceIdeal.main_v161) = v4 c
          ∧ r.2.mem ((c.tc : Thread Cert.ReferenceIdeal.nD Cert.ReferenceIdeal.τ).loc Cert.ReferenceIdeal.main_v163) = v5 c
          ∧ r.2.mem ((c.tc : Thread Cert.ReferenceIdeal.nD Cert.ReferenceIdeal.τ).loc Cert.ReferenceIdeal.main_v164) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x32768x2048 : Shape := ⟨3, ![1, 32768, 2048]⟩
abbrev S32768x2048 : Shape := ⟨2, ![32768, 2048]⟩
abbrev S128x32x2 : Shape := ⟨3, ![128, 32, 2]⟩
abbrev S2048x32768 : Shape := ⟨2, ![2048, 32768]⟩
abbrev S32x2x64x32768 : Shape := ⟨4, ![32, 2, 64, 32768]⟩
abbrev S256x2048 : Shape := ⟨2, ![256, 2048]⟩
abbrev S1x32x2 : Shape := ⟨3, ![1, 32, 2]⟩
abbrev S2048x256 : Shape := ⟨2, ![2048, 256]⟩
abbrev S32x2x64x256 : Shape := ⟨4, ![32, 2, 64, 256]⟩
abbrev S32x2048 : Shape := ⟨2, ![32, 2048]⟩
abbrev S128x2048 : Shape := ⟨2, ![128, 2048]⟩
abbrev S2048 : Shape := ⟨1, ![2048]⟩
abbrev S1x2048 : Shape := ⟨2, ![1, 2048]⟩
abbrev S32 : Shape := ⟨1, ![32]⟩
abbrev S32x1 : Shape := ⟨2, ![32, 1]⟩
abbrev S32x2 : Shape := ⟨2, ![32, 2]⟩
abbrev S32x64x256 : Shape := ⟨3, ![32, 64, 256]⟩
abbrev S32x1x64x256 : Shape := ⟨4, ![32, 1, 64, 256]⟩
abbrev S32x128x2 : Shape := ⟨3, ![32, 128, 2]⟩
abbrev S32x256 : Shape := ⟨2, ![32, 256]⟩
abbrev S32768x128 : Shape := ⟨2, ![32768, 128]⟩
abbrev S128x256 : Shape := ⟨2, ![128, 256]⟩
abbrev S2x2x64x32768 : Shape := ⟨4, ![2, 2, 64, 32768]⟩
abbrev S256x128 : Shape := ⟨2, ![256, 128]⟩
abbrev S8x256 : Shape := ⟨2, ![8, 256]⟩
abbrev S256x256 : Shape := ⟨2, ![256, 256]⟩
abbrev S64x256 : Shape := ⟨2, ![64, 256]⟩
abbrev S1x1 : Shape := ⟨2, ![1, 1]⟩
abbrev S2x16x8x256 : Shape := ⟨4, ![2, 16, 8, 256]⟩
abbrev S1x16x8x256 : Shape := ⟨4, ![1, 16, 8, 256]⟩
abbrev S16x8x256 : Shape := ⟨3, ![16, 8, 256]⟩
abbrev S256 : Shape := ⟨1, ![256]⟩
abbrev S1x256 : Shape := ⟨2, ![1, 256]⟩
abbrev S1x8x256 : Shape := ⟨3, ![1, 8, 256]⟩
abbrev S1x1x1x256 : Shape := ⟨4, ![1, 1, 1, 256]⟩
abbrev S32x8x256 : Shape := ⟨3, ![32, 8, 256]⟩
abbrev S1x2x64x256 : Shape := ⟨4, ![1, 2, 64, 256]⟩
abbrev S2x64x256 : Shape := ⟨3, ![2, 64, 256]⟩
abbrev S1x32768x32x64 : Shape := ⟨4, ![1, 32768, 32, 64]⟩
abbrev S128x2x32 : Shape := ⟨3, ![128, 2, 32]⟩
abbrev S1x256x32 : Shape := ⟨3, ![1, 256, 32]⟩

abbrev nBuf : Space → Nat
  | .hbm => 31
  | .vmem => 33
  | .smem => 3
  | _ => 0

abbrev bufTy : (tb : Table) → Fin (tcTables nBuf tb) → BufTy
  | .hbm, ⟨0, _⟩ => ⟨S1x32768x2048, .bf16⟩
  | .hbm, ⟨1, _⟩ => ⟨S1x32768x2048, .bf16⟩
  | .hbm, ⟨2, _⟩ => ⟨S1x32768x2048, .bf16⟩
  | .hbm, ⟨3, _⟩ => ⟨S32768x2048, .bf16⟩
  | .hbm, ⟨4, _⟩ => ⟨S32768x2048, .bf16⟩
  | .hbm, ⟨5, _⟩ => ⟨S32768x2048, .bf16⟩
  | .hbm, ⟨6, _⟩ => ⟨S32768x2048, .fp8e4m3⟩
  | .hbm, ⟨7, _⟩ => ⟨S128x32x2, .f32⟩
  | .hbm, ⟨8, _⟩ => ⟨S32768x2048, .fp8e4m3⟩
  | .hbm, ⟨9, _⟩ => ⟨S128x32x2, .f32⟩
  | .hbm, ⟨10, _⟩ => ⟨S32768x2048, .fp8e4m3⟩
  | .hbm, ⟨11, _⟩ => ⟨S128x32x2, .f32⟩
  | .hbm, ⟨12, _⟩ => ⟨S2048x32768, .fp8e4m3⟩
  | .hbm, ⟨13, _⟩ => ⟨S32x2x64x32768, .fp8e4m3⟩
  | .hbm, ⟨14, _⟩ => ⟨S32x128x2, .f32⟩
  | .hbm, ⟨15, _⟩ => ⟨S32x256, .f32⟩
  | .hbm, ⟨16, _⟩ => ⟨S32x128x2, .f32⟩
  | .hbm, ⟨17, _⟩ => ⟨S32x256, .f32⟩
  | .hbm, ⟨18, _⟩ => ⟨S32x128x2, .f32⟩
  | .hbm, ⟨19, _⟩ => ⟨S32x256, .f32⟩
  | .hbm, ⟨20, _⟩ => ⟨S32768x2048, .bf16⟩
  | .hbm, ⟨21, _⟩ => ⟨S1x32768x2048, .bf16⟩
  | .hbm, ⟨22, _⟩ => ⟨S1x32768x32x64, .fp8e4m3⟩
  | .hbm, ⟨23, _⟩ => ⟨S128x2x32, .f32⟩
  | .hbm, ⟨24, _⟩ => ⟨S1x256x32, .f32⟩
  | .hbm, ⟨25, _⟩ => ⟨S1x32768x32x64, .fp8e4m3⟩
  | .hbm, ⟨26, _⟩ => ⟨S128x2x32, .f32⟩
  | .hbm, ⟨27, _⟩ => ⟨S1x256x32, .f32⟩
  | .hbm, ⟨28, _⟩ => ⟨S1x32768x32x64, .fp8e4m3⟩
  | .hbm, ⟨29, _⟩ => ⟨S128x2x32, .f32⟩
  | .hbm, ⟨30, _⟩ => ⟨S1x256x32, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .fp8e4m3⟩
  | .local _ .vmem, ⟨7, _⟩ => ⟨S256x2048, .fp8e4m3⟩
  | .local _ .vmem, ⟨8, _⟩ => ⟨S1x32x2, .f32⟩
  | .local _ .vmem, ⟨9, _⟩ => ⟨S1x32x2, .f32⟩
  | .local _ .vmem, ⟨10, _⟩ => ⟨S256x2048, .fp8e4m3⟩
  | .local _ .vmem, ⟨11, _⟩ => ⟨S256x2048, .fp8e4m3⟩
  | .local _ .vmem, ⟨12, _⟩ => ⟨S1x32x2, .f32⟩
  | .local _ .vmem, ⟨13, _⟩ => ⟨S1x32x2, .f32⟩
  | .local _ .vmem, ⟨14, _⟩ => ⟨S256x2048, .fp8e4m3⟩
  | .local _ .vmem, ⟨15, _⟩ => ⟨S256x2048, .fp8e4m3⟩
  | .local _ .vmem, ⟨16, _⟩ => ⟨S1x32x2, .f32⟩
  | .local _ .vmem, ⟨17, _⟩ => ⟨S1x32x2, .f32⟩
  | .local _ .vmem, ⟨18, _⟩ => ⟨S2048x256, .fp8e4m3⟩
  | .local _ .vmem, ⟨19, _⟩ => ⟨S2048x256, .fp8e4m3⟩
  | .local _ .vmem, ⟨20, _⟩ => ⟨S32x2x64x256, .fp8e4m3⟩
  | .local _ .vmem, ⟨21, _⟩ => ⟨S32x2x64x256, .fp8e4m3⟩
  | .local _ .vmem, ⟨22, _⟩ => ⟨S32768x128, .fp8e4m3⟩
  | .local _ .vmem, ⟨23, _⟩ => ⟨S32768x128, .fp8e4m3⟩
  | .local _ .vmem, ⟨24, _⟩ => ⟨S128x256, .fp8e4m3⟩
  | .local _ .vmem, ⟨25, _⟩ => ⟨S128x256, .fp8e4m3⟩
  | .local _ .vmem, ⟨26, _⟩ => ⟨S2x2x64x32768, .fp8e4m3⟩
  | .local _ .vmem, ⟨27, _⟩ => ⟨S2x2x64x32768, .fp8e4m3⟩
  | .local _ .vmem, ⟨28, _⟩ => ⟨S256x128, .bf16⟩
  | .local _ .vmem, ⟨29, _⟩ => ⟨S256x128, .bf16⟩
  | .local _ .vmem, ⟨30, _⟩ => ⟨S128x256, .fp8e4m3⟩
  | .local _ .vmem, ⟨31, _⟩ => ⟨S128x256, .f32⟩
  | .local _ .vmem, ⟨32, _⟩ => ⟨S128x256, .f32⟩
  | .local _ .smem, ⟨0, _⟩ => ⟨S32x256, .f32⟩
  | .local _ .smem, ⟨1, _⟩ => ⟨S32x256, .f32⟩
  | .local _ .smem, ⟨2, _⟩ => ⟨S32x256, .f32⟩
  | _, _ => ⟨S1x32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v3_7 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem1_0 : DmaSem sig := 23
abbrev cc1_sem2_0 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem6_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x2x64x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![16, 128], ![false, false]⟩

def k1_off1 (i : grid1.Coords) (c0_i32 : BitVec 32) : Fin 2 → Nat :=
  let arg0 : BitVec 32 := BitVec.ofNat 32 (i 0).val
  let c2_i32 : BitVec 32 := 2#32
  let v4 : BitVec 32 := Scalar.muli arg0 c2_i32
  let v5 : BitVec 32 := Scalar.addi v4 c0_i32
  let v19 : Index := Scalar.indexCast v5
  let c2_i32_7 : BitVec 32 := 2#32
  let arg1 : BitVec 32 := BitVec.ofNat 32 (i 1).val
  let v18 : BitVec 32 := Scalar.muli c2_i32_7 arg1
  let v20 : Index := Scalar.indexCast v18
  ![v19.toNat, v20.toNat]
def k1_off2 (i : grid1.Coords) (c0_i32 : BitVec 32) : Fin 2 → Nat :=
  let arg0 : BitVec 32 := BitVec.ofNat 32 (i 0).val
  let c2_i32 : BitVec 32 := 2#32
  let v4 : BitVec 32 := Scalar.muli arg0 c2_i32
  let v5 : BitVec 32 := Scalar.addi v4 c0_i32
  let v24 : Index := Scalar.indexCast v5
  let c2_i32_8 : BitVec 32 := 2#32
  let arg1 : BitVec 32 := BitVec.ofNat 32 (i 1).val
  let v22 : BitVec 32 := Scalar.muli c2_i32_8 arg1
  let c1_i32 : BitVec 32 := 1#32
  let v23 : BitVec 32 := Scalar.addi v22 c1_i32
  let v25 : Index := Scalar.indexCast v23
  ![v24.toNat, v25.toNat]
@[reducible] def k1_t1_loop (i : grid1.Coords) : Scf.Loop 32 :=
  let c0_i32_12 : BitVec 32 := 0#32
  let arg1 : BitVec 32 := BitVec.ofNat 32 (i 1).val
  let v35 : BitVec 32 := Scalar.subi arg1 c0_i32_12
  let c1_i32_13 : BitVec 32 := 1#32
  let v37 : BitVec 32 := Scalar.divsi v35 c1_i32_13
  let v38 : BitVec 32 := Scalar.muli v37 c1_i32_13
  let v39 : BitVec 32 := Scalar.addi c0_i32_12 v38
  let c1_i32_14 : BitVec 32 := 1#32
  ⟨c0_i32_12, v39, c1_i32_14⟩
def k1_off3 (i : grid1.Coords) (k1_t1 : Fin (k1_t1_loop i).trips) : Fin 2 → Nat :=
  let c0_i32_12 : BitVec 32 := 0#32
  let c1_i32_14 : BitVec 32 := 1#32
  let arg12 : BitVec 32 := Scf.iv c0_i32_12 c1_i32_14 k1_t1
  let c256_i32_161 : BitVec 32 := 256#32
  let v416 : BitVec 32 := Scalar.muli arg12 c256_i32_161
  let v417 : Index := Scalar.indexCast v416
  let c0_162 : Index := 0#32
  ![v417.toNat, 0]
def k1_off4 (i : grid1.Coords) (k1_t1 : Fin (k1_t1_loop i).trips) (c0_i32_166 : BitVec 32) : Fin 2 → Nat :=
  let arg0 : BitVec 32 := BitVec.ofNat 32 (i 0).val
  let c2_i32 : BitVec 32 := 2#32
  let v4 : BitVec 32 := Scalar.muli arg0 c2_i32
  let c0_i32 : BitVec 32 := 0#32
  let v5 : BitVec 32 := Scalar.addi v4 c0_i32
  let v427 : Index := Scalar.indexCast v5
  let c0_i32_12 : BitVec 32 := 0#32
  let c1_i32_14 : BitVec 32 := 1#32
  let arg12 : BitVec 32 := Scf.iv c0_i32_12 c1_i32_14 k1_t1
  let c2_i32_165 : BitVec 32 := 2#32
  let v425 : BitVec 32 := Scalar.muli arg12 c2_i32_165
  let v426 : BitVec 32 := Scalar.addi v425 c0_i32_166
  let v428 : Index := Scalar.indexCast v426
  ![v427.toNat, v428.toNat]
@[reducible] def k1_t2_loop (i : grid1.Coords) : Scf.Loop 32 :=
  let c0_i32_12 : BitVec 32 := 0#32
  let arg1 : BitVec 32 := BitVec.ofNat 32 (i 1).val
  let v35 : BitVec 32 := Scalar.subi arg1 c0_i32_12
  let c1_i32_13 : BitVec 32 := 1#32
  let v37 : BitVec 32 := Scalar.divsi v35 c1_i32_13
  let v38 : BitVec 32 := Scalar.muli v37 c1_i32_13
  let v39 : BitVec 32 := Scalar.addi c0_i32_12 v38
  let v36 : BitVec 32 := Scalar.addi c0_i32_12 v35
  let c1_i32_15 : BitVec 32 := 1#32
  ⟨v39, v36, c1_i32_15⟩
def k1_off5 (i : grid1.Coords) (k1_t2 : Fin (k1_t2_loop i).trips) : Fin 2 → Nat :=
  let c0_i32_12 : BitVec 32 := 0#32
  let arg1 : BitVec 32 := BitVec.ofNat 32 (i 1).val
  let v35 : BitVec 32 := Scalar.subi arg1 c0_i32_12
  let c1_i32_13 : BitVec 32 := 1#32
  let v37 : BitVec 32 := Scalar.divsi v35 c1_i32_13
  let v38 : BitVec 32 := Scalar.muli v37 c1_i32_13
  let v39 : BitVec 32 := Scalar.addi c0_i32_12 v38
  let c1_i32_15 : BitVec 32 := 1#32
  let arg12 : BitVec 32 := Scf.iv v39 c1_i32_15 k1_t2
  let c256_i32_161 : BitVec 32 := 256#32
  let v416 : BitVec 32 := Scalar.muli arg12 c256_i32_161
  let v417 : Index := Scalar.indexCast v416
  let c0_162 : Index := 0#32
  ![v417.toNat, 0]
def k1_off6 (i : grid1.Coords) (k1_t2 : Fin (k1_t2_loop i).trips) (c0_i32_166 : BitVec 32) : Fin 2 → Nat :=
  let arg0 : BitVec 32 := BitVec.ofNat 32 (i 0).val
  let c2_i32 : BitVec 32 := 2#32
  let v4 : BitVec 32 := Scalar.muli arg0 c2_i32
  let c0_i32 : BitVec 32 := 0#32
  let v5 : BitVec 32 := Scalar.addi v4 c0_i32
  let v427 : Index := Scalar.indexCast v5
  let c0_i32_12 : BitVec 32 := 0#32
  let arg1 : BitVec 32 := BitVec.ofNat 32 (i 1).val
  let v35 : BitVec 32 := Scalar.subi arg1 c0_i32_12
  let c1_i32_13 : BitVec 32 := 1#32
  let v37 : BitVec 32 := Scalar.divsi v35 c1_i32_13
  let v38 : BitVec 32 := Scalar.muli v37 c1_i32_13
  let v39 : BitVec 32 := Scalar.addi c0_i32_12 v38
  let c1_i32_15 : BitVec 32 := 1#32
  let arg12 : BitVec 32 := Scf.iv v39 c1_i32_15 k1_t2
  let c2_i32_165 : BitVec 32 := 2#32
  let v425 : BitVec 32 := Scalar.muli arg12 c2_i32_165
  let v426 : BitVec 32 := Scalar.addi v425 c0_i32_166
  let v428 : Index := Scalar.indexCast v426
  ![v427.toNat, v428.toNat]
def k1_off7 (i : grid1.Coords) : Fin 2 → Nat :=
  let arg1 : BitVec 32 := BitVec.ofNat 32 (i 1).val
  let c256_i32 : BitVec 32 := 256#32
  let v43 : BitVec 32 := Scalar.muli arg1 c256_i32
  let v44 : Index := Scalar.indexCast v43
  let c0_16 : Index := 0#32
  ![v44.toNat, 0]
def k1_off8 (i : grid1.Coords) (c0_i32 : BitVec 32) (c0_i32_21 : BitVec 32) : Fin 2 → Nat :=
  let arg0 : BitVec 32 := BitVec.ofNat 32 (i 0).val
  let c2_i32 : BitVec 32 := 2#32
  let v4 : BitVec 32 := Scalar.muli arg0 c2_i32
  let v5 : BitVec 32 := Scalar.addi v4 c0_i32
  let v56 : Index := Scalar.indexCast v5
  let arg1 : BitVec 32 := BitVec.ofNat 32 (i 1).val
  let c2_i32_20 : BitVec 32 := 2#32
  let v54 : BitVec 32 := Scalar.muli arg1 c2_i32_20
  let v55 : BitVec 32 := Scalar.addi v54 c0_i32_21
  let v57 : Index := Scalar.indexCast v55
  ![v56.toNat, v57.toNat]
@[reducible] def k1_t3_loop (i : grid1.Coords) : Scf.Loop 32 :=
  let c0_i32_36 : BitVec 32 := 0#32
  let arg1 : BitVec 32 := BitVec.ofNat 32 (i 1).val
  let v105 : BitVec 32 := Scalar.subi arg1 c0_i32_36
  let c1_i32_37 : BitVec 32 := 1#32
  let v107 : BitVec 32 := Scalar.divsi v105 c1_i32_37
  let v108 : BitVec 32 := Scalar.muli v107 c1_i32_37
  let v109 : BitVec 32 := Scalar.addi c0_i32_36 v108
  let c1_i32_38 : BitVec 32 := 1#32
  ⟨c0_i32_36, v109, c1_i32_38⟩
def k1_off9 (i : grid1.Coords) (k1_t3 : Fin (k1_t3_loop i).trips) : Fin 2 → Nat :=
  let c0_i32_36 : BitVec 32 := 0#32
  let c1_i32_38 : BitVec 32 := 1#32
  let arg12 : BitVec 32 := Scf.iv c0_i32_36 c1_i32_38 k1_t3
  let c256_i32_161 : BitVec 32 := 256#32
  let v416 : BitVec 32 := Scalar.muli arg12 c256_i32_161
  let v417 : Index := Scalar.indexCast v416
  let c0_162 : Index := 0#32
  ![v417.toNat, 0]
def k1_off10 (i : grid1.Coords) (k1_t3 : Fin (k1_t3_loop i).trips) (c0_i32_165 : BitVec 32) : Fin 2 → Nat :=
  let arg0 : BitVec 32 := BitVec.ofNat 32 (i 0).val
  let c2_i32 : BitVec 32 := 2#32
  let v4 : BitVec 32 := Scalar.muli arg0 c2_i32
  let c0_i32 : BitVec 32 := 0#32
  let v5 : BitVec 32 := Scalar.addi v4 c0_i32
  let v426 : Index := Scalar.indexCast v5
  let c0_i32_36 : BitVec 32 := 0#32
  let c1_i32_38 : BitVec 32 := 1#32
  let arg12 : BitVec 32 := Scf.iv c0_i32_36 c1_i32_38 k1_t3
  let c2_i32_164 : BitVec 32 := 2#32
  let v424 : BitVec 32 := Scalar.muli arg12 c2_i32_164
  let v425 : BitVec 32 := Scalar.addi v424 c0_i32_165
  let v427 : Index := Scalar.indexCast v425
  ![v426.toNat, v427.toNat]
def k1_off11 (i : grid1.Coords) (k1_t3 : Fin (k1_t3_loop i).trips) : Fin 4 → Nat :=
  let c0_173 : Index := 0#32
  let c0_174 : Index := 0#32
  let c0_175 : Index := 0#32
  let c0_i32_36 : BitVec 32 := 0#32
  let c1_i32_38 : BitVec 32 := 1#32
  let arg12 : BitVec 32 := Scf.iv c0_i32_36 c1_i32_38 k1_t3
  let c256_i32_172 : BitVec 32 := 256#32
  let v464 : BitVec 32 := Scalar.muli arg12 c256_i32_172
  let v465 : Index := Scalar.indexCast v464
  ![0, 0, 0, v465.toNat]
@[reducible] def k1_t4_loop (i : grid1.Coords) : Scf.Loop 32 :=
  let c0_i32_36 : BitVec 32 := 0#32
  let arg1 : BitVec 32 := BitVec.ofNat 32 (i 1).val
  let v105 : BitVec 32 := Scalar.subi arg1 c0_i32_36
  let c1_i32_37 : BitVec 32 := 1#32
  let v107 : BitVec 32 := Scalar.divsi v105 c1_i32_37
  let v108 : BitVec 32 := Scalar.muli v107 c1_i32_37
  let v109 : BitVec 32 := Scalar.addi c0_i32_36 v108
  let v106 : BitVec 32 := Scalar.addi c0_i32_36 v105
  let c1_i32_39 : BitVec 32 := 1#32
  ⟨v109, v106, c1_i32_39⟩
def k1_off12 (i : grid1.Coords) (k1_t4 : Fin (k1_t4_loop i).trips) : Fin 2 → Nat :=
  let c0_i32_36 : BitVec 32 := 0#32
  let arg1 : BitVec 32 := BitVec.ofNat 32 (i 1).val
  let v105 : BitVec 32 := Scalar.subi arg1 c0_i32_36
  let c1_i32_37 : BitVec 32 := 1#32
  let v107 : BitVec 32 := Scalar.divsi v105 c1_i32_37
  let v108 : BitVec 32 := Scalar.muli v107 c1_i32_37
  let v109 : BitVec 32 := Scalar.addi c0_i32_36 v108
  let c1_i32_39 : BitVec 32 := 1#32
  let arg12 : BitVec 32 := Scf.iv v109 c1_i32_39 k1_t4
  let c256_i32_161 : BitVec 32 := 256#32
  let v416 : BitVec 32 := Scalar.muli arg12 c256_i32_161
  let v417 : Index := Scalar.indexCast v416
  let c0_162 : Index := 0#32
  ![v417.toNat, 0]
def k1_off13 (i : grid1.Coords) (k1_t4 : Fin (k1_t4_loop i).trips) (c0_i32_165 : BitVec 32) : Fin 2 → Nat :=
  let arg0 : BitVec 32 := BitVec.ofNat 32 (i 0).val
  let c2_i32 : BitVec 32 := 2#32
  let v4 : BitVec 32 := Scalar.muli arg0 c2_i32
  let c0_i32 : BitVec 32 := 0#32
  let v5 : BitVec 32 := Scalar.addi v4 c0_i32
  let v426 : Index := Scalar.indexCast v5
  let c0_i32_36 : BitVec 32 := 0#32
  let arg1 : BitVec 32 := BitVec.ofNat 32 (i 1).val
  let v105 : BitVec 32 := Scalar.subi arg1 c0_i32_36
  let c1_i32_37 : BitVec 32 := 1#32
  let v107 : BitVec 32 := Scalar.divsi v105 c1_i32_37
  let v108 : BitVec 32 := Scalar.muli v107 c1_i32_37
  let v109 : BitVec 32 := Scalar.addi c0_i32_36 v108
  let c1_i32_39 : BitVec 32 := 1#32
  let arg12 : BitVec 32 := Scf.iv v109 c1_i32_39 k1_t4
  let c2_i32_164 : BitVec 32 := 2#32
  let v424 : BitVec 32 := Scalar.muli arg12 c2_i32_164
  let v425 : BitVec 32 := Scalar.addi v424 c0_i32_165
  let v427 : Index := Scalar.indexCast v425
  ![v426.toNat, v427.toNat]
def k1_off14 (i : grid1.Coords) (k1_t4 : Fin (k1_t4_loop i).trips) : Fin 4 → Nat :=
  let c0_173 : Index := 0#32
  let c0_174 : Index := 0#32
  let c0_175 : Index := 0#32
  let c0_i32_36 : BitVec 32 := 0#32
  let arg1 : BitVec 32 := BitVec.ofNat 32 (i 1).val
  let v105 : BitVec 32 := Scalar.subi arg1 c0_i32_36
  let c1_i32_37 : BitVec 32 := 1#32
  let v107 : BitVec 32 := Scalar.divsi v105 c1_i32_37
  let v108 : BitVec 32 := Scalar.muli v107 c1_i32_37
  let v109 : BitVec 32 := Scalar.addi c0_i32_36 v108
  let c1_i32_39 : BitVec 32 := 1#32
  let arg12 : BitVec 32 := Scf.iv v109 c1_i32_39 k1_t4
  let c256_i32_172 : BitVec 32 := 256#32
  let v464 : BitVec 32 := Scalar.muli arg12 c256_i32_172
  let v465 : Index := Scalar.indexCast v464
  ![0, 0, 0, v465.toNat]
def k1_off15 (i : grid1.Coords) : Fin 4 → Nat :=
  let c0_53 : Index := 0#32
  let c0_54 : Index := 0#32
  let c0_55 : Index := 0#32
  let arg1 : BitVec 32 := BitVec.ofNat 32 (i 1).val
  let c256_i32_52 : BitVec 32 := 256#32
  let v163 : BitVec 32 := Scalar.muli arg1 c256_i32_52
  let v164 : Index := Scalar.indexCast v163
  ![0, 0, 0, v164.toNat]
@[reducible] def k1_t5_loop (i : grid1.Coords) : Scf.Loop 32 :=
  let c0_i32_93 : BitVec 32 := 0#32
  let arg1 : BitVec 32 := BitVec.ofNat 32 (i 1).val
  let v239 : BitVec 32 := Scalar.subi arg1 c0_i32_93
  let c1_i32_94 : BitVec 32 := 1#32
  let v241 : BitVec 32 := Scalar.divsi v239 c1_i32_94
  let v242 : BitVec 32 := Scalar.muli v241 c1_i32_94
  let v243 : BitVec 32 := Scalar.addi c0_i32_93 v242
  let c1_i32_95 : BitVec 32 := 1#32
  ⟨c0_i32_93, v243, c1_i32_95⟩
def k1_off16 (i : grid1.Coords) (k1_t5 : Fin (k1_t5_loop i).trips) : Fin 2 → Nat :=
  let c0_i32_93 : BitVec 32 := 0#32
  let c1_i32_95 : BitVec 32 := 1#32
  let arg12 : BitVec 32 := Scf.iv c0_i32_93 c1_i32_95 k1_t5
  let c256_i32_161 : BitVec 32 := 256#32
  let v416 : BitVec 32 := Scalar.muli arg12 c256_i32_161
  let v417 : Index := Scalar.indexCast v416
  let c0_162 : Index := 0#32
  ![v417.toNat, 0]
def k1_off17 (i : grid1.Coords) (k1_t5 : Fin (k1_t5_loop i).trips) (c0_i32_166 : BitVec 32) : Fin 2 → Nat :=
  let arg0 : BitVec 32 := BitVec.ofNat 32 (i 0).val
  let c2_i32_75 : BitVec 32 := 2#32
  let v208 : BitVec 32 := Scalar.muli arg0 c2_i32_75
  let c1_i32_76 : BitVec 32 := 1#32
  let v209 : BitVec 32 := Scalar.addi v208 c1_i32_76
  let v427 : Index := Scalar.indexCast v209
  let c0_i32_93 : BitVec 32 := 0#32
  let c1_i32_95 : BitVec 32 := 1#32
  let arg12 : BitVec 32 := Scf.iv c0_i32_93 c1_i32_95 k1_t5
  let c2_i32_165 : BitVec 32 := 2#32
  let v425 : BitVec 32 := Scalar.muli arg12 c2_i32_165
  let v426 : BitVec 32 := Scalar.addi v425 c0_i32_166
  let v428 : Index := Scalar.indexCast v426
  ![v427.toNat, v428.toNat]
@[reducible] def k1_t6_loop (i : grid1.Coords) : Scf.Loop 32 :=
  let c0_i32_93 : BitVec 32 := 0#32
  let arg1 : BitVec 32 := BitVec.ofNat 32 (i 1).val
  let v239 : BitVec 32 := Scalar.subi arg1 c0_i32_93
  let c1_i32_94 : BitVec 32 := 1#32
  let v241 : BitVec 32 := Scalar.divsi v239 c1_i32_94
  let v242 : BitVec 32 := Scalar.muli v241 c1_i32_94
  let v243 : BitVec 32 := Scalar.addi c0_i32_93 v242
  let v240 : BitVec 32 := Scalar.addi c0_i32_93 v239
  let c1_i32_96 : BitVec 32 := 1#32
  ⟨v243, v240, c1_i32_96⟩
def k1_off18 (i : grid1.Coords) (k1_t6 : Fin (k1_t6_loop i).trips) : Fin 2 → Nat :=
  let c0_i32_93 : BitVec 32 := 0#32
  let arg1 : BitVec 32 := BitVec.ofNat 32 (i 1).val
  let v239 : BitVec 32 := Scalar.subi arg1 c0_i32_93
  let c1_i32_94 : BitVec 32 := 1#32
  let v241 : BitVec 32 := Scalar.divsi v239 c1_i32_94
  let v242 : BitVec 32 := Scalar.muli v241 c1_i32_94
  let v243 : BitVec 32 := Scalar.addi c0_i32_93 v242
  let c1_i32_96 : BitVec 32 := 1#32
  let arg12 : BitVec 32 := Scf.iv v243 c1_i32_96 k1_t6
  let c256_i32_161 : BitVec 32 := 256#32
  let v416 : BitVec 32 := Scalar.muli arg12 c256_i32_161
  let v417 : Index := Scalar.indexCast v416
  let c0_162 : Index := 0#32
  ![v417.toNat, 0]
def k1_off19 (i : grid1.Coords) (k1_t6 : Fin (k1_t6_loop i).trips) (c0_i32_166 : BitVec 32) : Fin 2 → Nat :=
  let arg0 : BitVec 32 := BitVec.ofNat 32 (i 0).val
  let c2_i32_75 : BitVec 32 := 2#32
  let v208 : BitVec 32 := Scalar.muli arg0 c2_i32_75
  let c1_i32_76 : BitVec 32 := 1#32
  let v209 : BitVec 32 := Scalar.addi v208 c1_i32_76
  let v427 : Index := Scalar.indexCast v209
  let c0_i32_93 : BitVec 32 := 0#32
  let arg1 : BitVec 32 := BitVec.ofNat 32 (i 1).val
  let v239 : BitVec 32 := Scalar.subi arg1 c0_i32_93
  let c1_i32_94 : BitVec 32 := 1#32
  let v241 : BitVec 32 := Scalar.divsi v239 c1_i32_94
  let v242 : BitVec 32 := Scalar.muli v241 c1_i32_94
  let v243 : BitVec 32 := Scalar.addi c0_i32_93 v242
  let c1_i32_96 : BitVec 32 := 1#32
  let arg12 : BitVec 32 := Scf.iv v243 c1_i32_96 k1_t6
  let c2_i32_165 : BitVec 32 := 2#32
  let v425 : BitVec 32 := Scalar.muli arg12 c2_i32_165
  let v426 : BitVec 32 := Scalar.addi v425 c0_i32_166
  let v428 : Index := Scalar.indexCast v426
  ![v427.toNat, v428.toNat]
@[reducible] def k1_t7_loop (i : grid1.Coords) : Scf.Loop 32 :=
  let c0_i32_118 : BitVec 32 := 0#32
  let arg1 : BitVec 32 := BitVec.ofNat 32 (i 1).val
  let v309 : BitVec 32 := Scalar.subi arg1 c0_i32_118
  let c1_i32_119 : BitVec 32 := 1#32
  let v311 : BitVec 32 := Scalar.divsi v309 c1_i32_119
  let v312 : BitVec 32 := Scalar.muli v311 c1_i32_119
  let v313 : BitVec 32 := Scalar.addi c0_i32_118 v312
  let c1_i32_120 : BitVec 32 := 1#32
  ⟨c0_i32_118, v313, c1_i32_120⟩
def k1_off20 (i : grid1.Coords) (k1_t7 : Fin (k1_t7_loop i).trips) : Fin 2 → Nat :=
  let c0_i32_118 : BitVec 32 := 0#32
  let c1_i32_120 : BitVec 32 := 1#32
  let arg12 : BitVec 32 := Scf.iv c0_i32_118 c1_i32_120 k1_t7
  let c256_i32_161 : BitVec 32 := 256#32
  let v416 : BitVec 32 := Scalar.muli arg12 c256_i32_161
  let v417 : Index := Scalar.indexCast v416
  let c0_162 : Index := 0#32
  ![v417.toNat, 0]
def k1_off21 (i : grid1.Coords) (k1_t7 : Fin (k1_t7_loop i).trips) (c0_i32_165 : BitVec 32) : Fin 2 → Nat :=
  let arg0 : BitVec 32 := BitVec.ofNat 32 (i 0).val
  let c2_i32_75 : BitVec 32 := 2#32
  let v208 : BitVec 32 := Scalar.muli arg0 c2_i32_75
  let c1_i32_76 : BitVec 32 := 1#32
  let v209 : BitVec 32 := Scalar.addi v208 c1_i32_76
  let v426 : Index := Scalar.indexCast v209
  let c0_i32_118 : BitVec 32 := 0#32
  let c1_i32_120 : BitVec 32 := 1#32
  let arg12 : BitVec 32 := Scf.iv c0_i32_118 c1_i32_120 k1_t7
  let c2_i32_164 : BitVec 32 := 2#32
  let v424 : BitVec 32 := Scalar.muli arg12 c2_i32_164
  let v425 : BitVec 32 := Scalar.addi v424 c0_i32_165
  let v427 : Index := Scalar.indexCast v425
  ![v426.toNat, v427.toNat]
def k1_off22 (i : grid1.Coords) (k1_t7 : Fin (k1_t7_loop i).trips) : Fin 4 → Nat :=
  let c1_173 : Index := 1#32
  let c0_174 : Index := 0#32
  let c0_175 : Index := 0#32
  let c0_i32_118 : BitVec 32 := 0#32
  let c1_i32_120 : BitVec 32 := 1#32
  let arg12 : BitVec 32 := Scf.iv c0_i32_118 c1_i32_120 k1_t7
  let c256_i32_172 : BitVec 32 := 256#32
  let v464 : BitVec 32 := Scalar.muli arg12 c256_i32_172
  let v465 : Index := Scalar.indexCast v464
  ![1, 0, 0, v465.toNat]
@[reducible] def k1_t8_loop (i : grid1.Coords) : Scf.Loop 32 :=
  let c0_i32_118 : BitVec 32 := 0#32
  let arg1 : BitVec 32 := BitVec.ofNat 32 (i 1).val
  let v309 : BitVec 32 := Scalar.subi arg1 c0_i32_118
  let c1_i32_119 : BitVec 32 := 1#32
  let v311 : BitVec 32 := Scalar.divsi v309 c1_i32_119
  let v312 : BitVec 32 := Scalar.muli v311 c1_i32_119
  let v313 : BitVec 32 := Scalar.addi c0_i32_118 v312
  let v310 : BitVec 32 := Scalar.addi c0_i32_118 v309
  let c1_i32_121 : BitVec 32 := 1#32
  ⟨v313, v310, c1_i32_121⟩
def k1_off23 (i : grid1.Coords) (k1_t8 : Fin (k1_t8_loop i).trips) : Fin 2 → Nat :=
  let c0_i32_118 : BitVec 32 := 0#32
  let arg1 : BitVec 32 := BitVec.ofNat 32 (i 1).val
  let v309 : BitVec 32 := Scalar.subi arg1 c0_i32_118
  let c1_i32_119 : BitVec 32 := 1#32
  let v311 : BitVec 32 := Scalar.divsi v309 c1_i32_119
  let v312 : BitVec 32 := Scalar.muli v311 c1_i32_119
  let v313 : BitVec 32 := Scalar.addi c0_i32_118 v312
  let c1_i32_121 : BitVec 32 := 1#32
  let arg12 : BitVec 32 := Scf.iv v313 c1_i32_121 k1_t8
  let c256_i32_161 : BitVec 32 := 256#32
  let v416 : BitVec 32 := Scalar.muli arg12 c256_i32_161
  let v417 : Index := Scalar.indexCast v416
  let c0_162 : Index := 0#32
  ![v417.toNat, 0]
def k1_off24 (i : grid1.Coords) (k1_t8 : Fin (k1_t8_loop i).trips) (c0_i32_165 : BitVec 32) : Fin 2 → Nat :=
  let arg0 : BitVec 32 := BitVec.ofNat 32 (i 0).val
  let c2_i32_75 : BitVec 32 := 2#32
  let v208 : BitVec 32 := Scalar.muli arg0 c2_i32_75
  let c1_i32_76 : BitVec 32 := 1#32
  let v209 : BitVec 32 := Scalar.addi v208 c1_i32_76
  let v426 : Index := Scalar.indexCast v209
  let c0_i32_118 : BitVec 32 := 0#32
  let arg1 : BitVec 32 := BitVec.ofNat 32 (i 1).val
  let v309 : BitVec 32 := Scalar.subi arg1 c0_i32_118
  let c1_i32_119 : BitVec 32 := 1#32
  let v311 : BitVec 32 := Scalar.divsi v309 c1_i32_119
  let v312 : BitVec 32 := Scalar.muli v311 c1_i32_119
  let v313 : BitVec 32 := Scalar.addi c0_i32_118 v312
  let c1_i32_121 : BitVec 32 := 1#32
  let arg12 : BitVec 32 := Scf.iv v313 c1_i32_121 k1_t8
  let c2_i32_164 : BitVec 32 := 2#32
  let v424 : BitVec 32 := Scalar.muli arg12 c2_i32_164
  let v425 : BitVec 32 := Scalar.addi v424 c0_i32_165
  let v427 : Index := Scalar.indexCast v425
  ![v426.toNat, v427.toNat]
def k1_off25 (i : grid1.Coords) (k1_t8 : Fin (k1_t8_loop i).trips) : Fin 4 → Nat :=
  let c1_173 : Index := 1#32
  let c0_174 : Index := 0#32
  let c0_175 : Index := 0#32
  let c0_i32_118 : BitVec 32 := 0#32
  let arg1 : BitVec 32 := BitVec.ofNat 32 (i 1).val
  let v309 : BitVec 32 := Scalar.subi arg1 c0_i32_118
  let c1_i32_119 : BitVec 32 := 1#32
  let v311 : BitVec 32 := Scalar.divsi v309 c1_i32_119
  let v312 : BitVec 32 := Scalar.muli v311 c1_i32_119
  let v313 : BitVec 32 := Scalar.addi c0_i32_118 v312
  let c1_i32_121 : BitVec 32 := 1#32
  let arg12 : BitVec 32 := Scf.iv v313 c1_i32_121 k1_t8
  let c256_i32_172 : BitVec 32 := 256#32
  let v464 : BitVec 32 := Scalar.muli arg12 c256_i32_172
  let v465 : Index := Scalar.indexCast v464
  ![1, 0, 0, v465.toNat]
def k1_off26 (i : grid1.Coords) : Fin 4 → Nat :=
  let c1 : Index := 1#32
  let c0_135 : Index := 0#32
  let c0_136 : Index := 0#32
  let arg1 : BitVec 32 := BitVec.ofNat 32 (i 1).val
  let c256_i32_134 : BitVec 32 := 256#32
  let v367 : BitVec 32 := Scalar.muli arg1 c256_i32_134
  let v368 : Index := Scalar.indexCast v367
  ![1, 0, 0, v368.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .smem S32x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .smem S32x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S32768x128 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S128x256 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2x2x64x32768 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S256x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "inv_softcap" => some ((1 / 50 : ℝ) : EReal)
  | "softcap_log2e" => some ((50 * (Real.log 2)⁻¹ : ℝ) : EReal)
  | _ => none
-- ==== ReferenceIdeal.lean ====
abbrev S1x32768x2048 : Shape := ⟨3, ![1, 32768, 2048]⟩
abbrev S256x128x32x64 : Shape := ⟨4, ![256, 128, 32, 64]⟩
abbrev S_ : Shape := ⟨0, ![]⟩
abbrev S256x32 : Shape := ⟨2, ![256, 32]⟩
abbrev S256x1x32x1 : Shape := ⟨4, ![256, 1, 32, 1]⟩
abbrev S32x256x128x256x128 : Shape := ⟨5, ![32, 256, 128, 256, 128]⟩
abbrev S32x256 : Shape := ⟨2, ![32, 256]⟩
abbrev S32x256x1x1x1 : Shape := ⟨5, ![32, 256, 1, 1, 1]⟩
abbrev S32x1x1x256x1 : Shape := ⟨5, ![32, 1, 1, 256, 1]⟩
abbrev S32768 : Shape := ⟨1, ![32768]⟩
abbrev S256x128 : Shape := ⟨2, ![256, 128]⟩
abbrev S1x1x256x128 : Shape := ⟨4, ![1, 1, 256, 128]⟩
abbrev S256x128x1x1 : Shape := ⟨4, ![256, 128, 1, 1]⟩
abbrev S256x128x256x128 : Shape := ⟨4, ![256, 128, 256, 128]⟩
abbrev S1x256x128x256x128 : Shape := ⟨5, ![1, 256, 128, 256, 128]⟩
abbrev S32x256x128 : Shape := ⟨3, ![32, 256, 128]⟩
abbrev S32x256x128x1x1 : Shape := ⟨5, ![32, 256, 128, 1, 1]⟩
abbrev S32x256x256x128x64 : Shape := ⟨5, ![32, 256, 256, 128, 64]⟩
abbrev S32x256x128x64 : Shape := ⟨4, ![32, 256, 128, 64]⟩
abbrev S32x256x128x1 : Shape := ⟨4, ![32, 256, 128, 1]⟩
abbrev S1x32768x32x64 : Shape := ⟨4, ![1, 32768, 32, 64]⟩
abbrev S1x256x32 : Shape := ⟨3, ![1, 256, 32]⟩

abbrev nBuf : Space → Nat
  | .hbm => 243
  | .vmem => 0
  | .smem => 0
  | _ => 0

abbrev hbmTy0_0 (i : Nat) : BufTy := match i % 128 with
  | 0 => ⟨S1x32768x2048, .bf16⟩
  | 1 => ⟨S1x32768x2048, .bf16⟩
  | 2 => ⟨S1x32768x2048, .bf16⟩
  | 3 => ⟨S1x32768x2048, .f32⟩
  | 4 => ⟨S256x128x32x64, .f32⟩
  | 5 => ⟨S256x128x32x64, .f32⟩
  | 6 => ⟨S_, .f32⟩
  | 7 => ⟨S256x32, .f32⟩
  | 8 => ⟨S_, .f32⟩
  | 9 => ⟨S256x32, .f32⟩
  | 10 => ⟨S256x32, .f32⟩
  | 11 => ⟨S256x32, .f32⟩
  | 12 => ⟨S_, .f32⟩
  | 13 => ⟨S_, .f32⟩
  | 14 => ⟨S256x32, .f32⟩
  | 15 => ⟨S256x32, .f32⟩
  | 16 => ⟨S256x32, .f32⟩
  | 17 => ⟨S_, .f32⟩
  | 18 => ⟨S256x32, .f32⟩
  | 19 => ⟨S256x32, .f32⟩
  | 20 => ⟨S256x32, .i32⟩
  | 21 => ⟨S_, .f32⟩
  | 22 => ⟨S256x32, .f32⟩
  | 23 => ⟨S256x32, .i1⟩
  | 24 => ⟨S_, .i32⟩
  | 25 => ⟨S_, .i32⟩
  | 26 => ⟨S256x32, .i32⟩
  | 27 => ⟨S256x32, .i32⟩
  | 28 => ⟨S256x32, .i32⟩
  | 29 => ⟨S_, .f32⟩
  | 30 => ⟨S256x32, .f32⟩
  | 31 => ⟨S256x32, .f32⟩
  | 32 => ⟨S256x32, .f32⟩
  | 33 => ⟨S256x1x32x1, .f32⟩
  | 34 => ⟨S256x128x32x64, .f32⟩
  | 35 => ⟨S256x128x32x64, .f32⟩
  | 36 => ⟨S_, .f32⟩
  | 37 => ⟨S_, .f32⟩
  | 38 => ⟨S_, .f32⟩
  | 39 => ⟨S256x128x32x64, .f32⟩
  | 40 => ⟨S256x128x32x64, .f32⟩
  | 41 => ⟨S_, .f32⟩
  | 42 => ⟨S256x128x32x64, .f32⟩
  | 43 => ⟨S256x128x32x64, .f32⟩
  | 44 => ⟨S_, .f32⟩
  | 45 => ⟨S256x32, .f32⟩
  | 46 => ⟨S256x32, .f32⟩
  | 47 => ⟨S256x32, .f32⟩
  | 48 => ⟨S1x32768x2048, .f32⟩
  | 49 => ⟨S256x128x32x64, .f32⟩
  | 50 => ⟨S256x128x32x64, .f32⟩
  | 51 => ⟨S_, .f32⟩
  | 52 => ⟨S256x32, .f32⟩
  | 53 => ⟨S_, .f32⟩
  | 54 => ⟨S256x32, .f32⟩
  | 55 => ⟨S256x32, .f32⟩
  | 56 => ⟨S256x32, .f32⟩
  | 57 => ⟨S_, .f32⟩
  | 58 => ⟨S_, .f32⟩
  | 59 => ⟨S256x32, .f32⟩
  | 60 => ⟨S256x32, .f32⟩
  | 61 => ⟨S256x32, .f32⟩
  | 62 => ⟨S_, .f32⟩
  | 63 => ⟨S256x32, .f32⟩
  | 64 => ⟨S256x32, .f32⟩
  | 65 => ⟨S256x32, .i32⟩
  | 66 => ⟨S_, .f32⟩
  | 67 => ⟨S256x32, .f32⟩
  | 68 => ⟨S256x32, .i1⟩
  | 69 => ⟨S_, .i32⟩
  | 70 => ⟨S_, .i32⟩
  | 71 => ⟨S256x32, .i32⟩
  | 72 => ⟨S256x32, .i32⟩
  | 73 => ⟨S256x32, .i32⟩
  | 74 => ⟨S_, .f32⟩
  | 75 => ⟨S256x32, .f32⟩
  | 76 => ⟨S256x32, .f32⟩
  | 77 => ⟨S256x32, .f32⟩
  | 78 => ⟨S256x1x32x1, .f32⟩
  | 79 => ⟨S256x128x32x64, .f32⟩
  | 80 => ⟨S256x128x32x64, .f32⟩
  | 81 => ⟨S_, .f32⟩
  | 82 => ⟨S_, .f32⟩
  | 83 => ⟨S_, .f32⟩
  | 84 => ⟨S256x128x32x64, .f32⟩
  | 85 => ⟨S256x128x32x64, .f32⟩
  | 86 => ⟨S_, .f32⟩
  | 87 => ⟨S256x128x32x64, .f32⟩
  | 88 => ⟨S256x128x32x64, .f32⟩
  | 89 => ⟨S_, .f32⟩
  | 90 => ⟨S256x32, .f32⟩
  | 91 => ⟨S256x32, .f32⟩
  | 92 => ⟨S256x32, .f32⟩
  | 93 => ⟨S1x32768x2048, .f32⟩
  | 94 => ⟨S256x128x32x64, .f32⟩
  | 95 => ⟨S256x128x32x64, .f32⟩
  | 96 => ⟨S_, .f32⟩
  | 97 => ⟨S256x32, .f32⟩
  | 98 => ⟨S_, .f32⟩
  | 99 => ⟨S256x32, .f32⟩
  | 100 => ⟨S256x32, .f32⟩
  | 101 => ⟨S256x32, .f32⟩
  | 102 => ⟨S_, .f32⟩
  | 103 => ⟨S_, .f32⟩
  | 104 => ⟨S256x32, .f32⟩
  | 105 => ⟨S256x32, .f32⟩
  | 106 => ⟨S256x32, .f32⟩
  | 107 => ⟨S_, .f32⟩
  | 108 => ⟨S256x32, .f32⟩
  | 109 => ⟨S256x32, .f32⟩
  | 110 => ⟨S256x32, .i32⟩
  | 111 => ⟨S_, .f32⟩
  | 112 => ⟨S256x32, .f32⟩
  | 113 => ⟨S256x32, .i1⟩
  | 114 => ⟨S_, .i32⟩
  | 115 => ⟨S_, .i32⟩
  | 116 => ⟨S256x32, .i32⟩
  | 117 => ⟨S256x32, .i32⟩
  | 118 => ⟨S256x32, .i32⟩
  | 119 => ⟨S_, .f32⟩
  | 120 => ⟨S256x32, .f32⟩
  | 121 => ⟨S256x32, .f32⟩
  | 122 => ⟨S256x32, .f32⟩
  | 123 => ⟨S256x1x32x1, .f32⟩
  | 124 => ⟨S256x128x32x64, .f32⟩
  | 125 => ⟨S256x128x32x64, .f32⟩
  | 126 => ⟨S_, .f32⟩
  | 127 => ⟨S_, .f32⟩
  | _ => ⟨S1x32768x2048, .bf16⟩

abbrev hbmTy0_1 (i : Nat) : BufTy := match i % 128 with
  | 0 => ⟨S_, .f32⟩
  | 1 => ⟨S256x128x32x64, .f32⟩
  | 2 => ⟨S256x128x32x64, .f32⟩
  | 3 => ⟨S_, .f32⟩
  | 4 => ⟨S256x128x32x64, .f32⟩
  | 5 => ⟨S256x128x32x64, .f32⟩
  | 6 => ⟨S_, .f32⟩
  | 7 => ⟨S256x32, .f32⟩
  | 8 => ⟨S256x32, .f32⟩
  | 9 => ⟨S256x32, .f32⟩
  | 10 => ⟨S32x256x128x256x128, .f32⟩
  | 11 => ⟨S_, .f32⟩
  | 12 => ⟨S256x32, .f32⟩
  | 13 => ⟨S256x32, .f32⟩
  | 14 => ⟨S32x256, .f32⟩
  | 15 => ⟨S32x256x1x1x1, .f32⟩
  | 16 => ⟨S32x256x128x256x128, .f32⟩
  | 17 => ⟨S32x256x128x256x128, .f32⟩
  | 18 => ⟨S32x256, .f32⟩
  | 19 => ⟨S32x1x1x256x1, .f32⟩
  | 20 => ⟨S32x256x128x256x128, .f32⟩
  | 21 => ⟨S32x256x128x256x128, .f32⟩
  | 22 => ⟨S_, .f32⟩
  | 23 => ⟨S32x256x128x256x128, .f32⟩
  | 24 => ⟨S32x256x128x256x128, .f32⟩
  | 25 => ⟨S32x256x128x256x128, .f32⟩
  | 26 => ⟨S_, .f32⟩
  | 27 => ⟨S32x256x128x256x128, .f32⟩
  | 28 => ⟨S32x256x128x256x128, .f32⟩
  | 29 => ⟨S32768, .i32⟩
  | 30 => ⟨S256x128, .i32⟩
  | 31 => ⟨S1x1x256x128, .i32⟩
  | 32 => ⟨S256x128x1x1, .i32⟩
  | 33 => ⟨S256x128x256x128, .i32⟩
  | 34 => ⟨S256x128x256x128, .i32⟩
  | 35 => ⟨S256x128x256x128, .i1⟩
  | 36 => ⟨S1x256x128x256x128, .i1⟩
  | 37 => ⟨S32x256x128x256x128, .i1⟩
  | 38 => ⟨S_, .f32⟩
  | 39 => ⟨S32x256x128x256x128, .f32⟩
  | 40 => ⟨S32x256x128x256x128, .f32⟩
  | 41 => ⟨S_, .f32⟩
  | 42 => ⟨S32x256x128, .f32⟩
  | 43 => ⟨S32x256x128x1x1, .f32⟩
  | 44 => ⟨S32x256x128x256x128, .f32⟩
  | 45 => ⟨S32x256x128x256x128, .f32⟩
  | 46 => ⟨S32x256x128x256x128, .f32⟩
  | 47 => ⟨S_, .f32⟩
  | 48 => ⟨S32x256x128, .f32⟩
  | 49 => ⟨S32x256x128x1x1, .f32⟩
  | 50 => ⟨S_, .f32⟩
  | 51 => ⟨S32x256x128, .f32⟩
  | 52 => ⟨S32x256x128x1x1, .f32⟩
  | 53 => ⟨S_, .f32⟩
  | 54 => ⟨S32x256x128x1x1, .f32⟩
  | 55 => ⟨S32x256x128x1x1, .f32⟩
  | 56 => ⟨S32x256x128x1x1, .f32⟩
  | 57 => ⟨S_, .f32⟩
  | 58 => ⟨S_, .f32⟩
  | 59 => ⟨S32x256x128x1x1, .f32⟩
  | 60 => ⟨S32x256x128x1x1, .f32⟩
  | 61 => ⟨S32x256x128x1x1, .f32⟩
  | 62 => ⟨S_, .f32⟩
  | 63 => ⟨S32x256x128x1x1, .f32⟩
  | 64 => ⟨S32x256x128x1x1, .f32⟩
  | 65 => ⟨S32x256x128x1x1, .i32⟩
  | 66 => ⟨S_, .f32⟩
  | 67 => ⟨S32x256x128x1x1, .f32⟩
  | 68 => ⟨S32x256x128x1x1, .i1⟩
  | 69 => ⟨S_, .i32⟩
  | 70 => ⟨S_, .i32⟩
  | 71 => ⟨S32x256x128x1x1, .i32⟩
  | 72 => ⟨S32x256x128x1x1, .i32⟩
  | 73 => ⟨S32x256x128x1x1, .i32⟩
  | 74 => ⟨S_, .f32⟩
  | 75 => ⟨S32x256x128x1x1, .f32⟩
  | 76 => ⟨S32x256x128x1x1, .f32⟩
  | 77 => ⟨S32x256x128x1x1, .f32⟩
  | 78 => ⟨S32x256x128x256x128, .f32⟩
  | 79 => ⟨S32x256x128x256x128, .f32⟩
  | 80 => ⟨S_, .f32⟩
  | 81 => ⟨S_, .f32⟩
  | 82 => ⟨S_, .f32⟩
  | 83 => ⟨S32x256x128x256x128, .f32⟩
  | 84 => ⟨S32x256x128x256x128, .f32⟩
  | 85 => ⟨S_, .f32⟩
  | 86 => ⟨S32x256x128x256x128, .f32⟩
  | 87 => ⟨S32x256x128x256x128, .f32⟩
  | 88 => ⟨S32x256x256x128x64, .f32⟩
  | 89 => ⟨S32x256, .f32⟩
  | 90 => ⟨S32x256x1x1x1, .f32⟩
  | 91 => ⟨S32x256x256x128x64, .f32⟩
  | 92 => ⟨S32x256x256x128x64, .f32⟩
  | 93 => ⟨S_, .f32⟩
  | 94 => ⟨S32x256x128x64, .f32⟩
  | 95 => ⟨S_, .f32⟩
  | 96 => ⟨S32x256x128x1x1, .f32⟩
  | 97 => ⟨S32x256x128x1x1, .f32⟩
  | 98 => ⟨S32x256x128x1x1, .f32⟩
  | 99 => ⟨S32x256x128x1x1, .f32⟩
  | 100 => ⟨S32x256x128x1, .f32⟩
  | 101 => ⟨S32x256x128x64, .f32⟩
  | 102 => ⟨S32x256x128x64, .f32⟩
  | 103 => ⟨S256x128x32x64, .f32⟩
  | 104 => ⟨S1x32768x2048, .f32⟩
  | 105 => ⟨S1x32768x2048, .bf16⟩
  | 106 => ⟨S256x128x32x64, .fp8e4m3⟩
  | 107 => ⟨S1x32768x32x64, .fp8e4m3⟩
  | 108 => ⟨S1x256x32, .f32⟩
  | 109 => ⟨S256x128x32x64, .fp8e4m3⟩
  | 110 => ⟨S1x32768x32x64, .fp8e4m3⟩
  | 111 => ⟨S1x256x32, .f32⟩
  | 112 => ⟨S256x128x32x64, .fp8e4m3⟩
  | 113 => ⟨S1x32768x32x64, .fp8e4m3⟩
  | 114 => ⟨S1x256x32, .f32⟩
  | _ => ⟨S1x32768x2048, .bf16⟩

abbrev hbmTy (i : Nat) : BufTy := match i / 128 with
  | 0 => hbmTy0_0 i
  | 1 => hbmTy0_1 i
  | _ => ⟨S1x32768x2048, .bf16⟩

abbrev bufTy : (tb : Table) → Fin (tcTables nBuf tb) → BufTy
  | .hbm, ⟨i, _⟩ => hbmTy i
  | _, _ => ⟨S1x32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_cst_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_10 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_v43 : Ref sig .tc := ⟨.hbm, 68, rfl⟩
abbrev main_c_13 : Ref sig .tc := ⟨.hbm, 69, rfl⟩
abbrev main_call2_v0 : Ref sig .tc := ⟨.hbm, 70, rfl⟩
abbrev main_call2_v1 : Ref sig .tc := ⟨.hbm, 71, rfl⟩
abbrev main_v44 : Ref sig .tc := ⟨.hbm, 72, rfl⟩
abbrev main_v45 : Ref sig .tc := ⟨.hbm, 73, rfl⟩
abbrev main_cst_14 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_15 : Ref sig .tc := ⟨.hbm, 81, rfl⟩
abbrev main_cst_16 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v52 : Ref sig .tc := ⟨.hbm, 88, rfl⟩
abbrev main_cst_17 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_18 : Ref sig .tc := ⟨.hbm, 96, rfl⟩
abbrev main_v59 : Ref sig .tc := ⟨.hbm, 97, rfl⟩
abbrev main_cst_19 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_20 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_21 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_22 : Ref sig .tc := ⟨.hbm, 111, rfl⟩
abbrev main_v70 : Ref sig .tc := ⟨.hbm, 112, rfl⟩
abbrev main_v71 : Ref sig .tc := ⟨.hbm, 113, rfl⟩
abbrev main_c_23 : Ref sig .tc := ⟨.hbm, 114, rfl⟩
abbrev main_call4_v0 : Ref sig .tc := ⟨.hbm, 115, rfl⟩
abbrev main_call4_v1 : Ref sig .tc := ⟨.hbm, 116, rfl⟩
abbrev main_v72 : Ref sig .tc := ⟨.hbm, 117, rfl⟩
abbrev main_v73 : Ref sig .tc := ⟨.hbm, 118, rfl⟩
abbrev main_cst_24 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_25 : Ref sig .tc := ⟨.hbm, 126, rfl⟩
abbrev main_cst_26 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_v80 : Ref sig .tc := ⟨.hbm, 133, rfl⟩
abbrev main_cst_27 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_28 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_29 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_cst_30 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_31 : Ref sig .tc := ⟨.hbm, 166, rfl⟩
abbrev main_v109 : Ref sig .tc := ⟨.hbm, 167, rfl⟩
abbrev main_v110 : Ref sig .tc := ⟨.hbm, 168, rfl⟩
abbrev main_cst_32 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_cst_33 : Ref sig .tc := ⟨.hbm, 175, rfl⟩
abbrev main_v116 : Ref sig .tc := ⟨.hbm, 176, rfl⟩
abbrev main_v117 : Ref sig .tc := ⟨.hbm, 177, rfl⟩
abbrev main_cst_34 : Ref sig .tc := ⟨.hbm, 178, rfl⟩
abbrev main_v118 : Ref sig .tc := ⟨.hbm, 179, rfl⟩
abbrev main_v119 : Ref sig .tc := ⟨.hbm, 180, rfl⟩
abbrev main_cst_35 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_cst_36 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_cst_37 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_cst_38 : Ref sig .tc := ⟨.hbm, 194, rfl⟩
abbrev main_v130 : Ref sig .tc := ⟨.hbm, 195, rfl⟩
abbrev main_v131 : Ref sig .tc := ⟨.hbm, 196, rfl⟩
abbrev main_c_39 : Ref sig .tc := ⟨.hbm, 197, rfl⟩
abbrev main_call6_v0 : Ref sig .tc := ⟨.hbm, 198, rfl⟩
abbrev main_call6_v1 : Ref sig .tc := ⟨.hbm, 199, rfl⟩
abbrev main_v132 : Ref sig .tc := ⟨.hbm, 200, rfl⟩
abbrev main_v133 : Ref sig .tc := ⟨.hbm, 201, rfl⟩
abbrev main_cst_40 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_cst_41 : Ref sig .tc := ⟨.hbm, 208, rfl⟩
abbrev main_cst_42 : Ref sig .tc := ⟨.hbm, 209, rfl⟩
abbrev main_call7_v0 : Ref sig .tc := ⟨.hbm, 210, rfl⟩
abbrev main_call7_v1 : Ref sig .tc := ⟨.hbm, 211, rfl⟩
abbrev main_call7_v2 : Ref sig .tc := ⟨.hbm, 212, rfl⟩
abbrev main_call7_v3 : Ref sig .tc := ⟨.hbm, 213, rfl⟩
abbrev main_call7_v4 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_cst_43 : Ref sig .tc := ⟨.hbm, 221, rfl⟩
abbrev main_v145 : Ref sig .tc := ⟨.hbm, 222, rfl⟩
abbrev main_cst_44 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩

abbrev nD : Nat := 1
abbrev τ : Topo := Topo.v7x

variable {F : FTy → Type} [FloatOps F]
-- ==== Proof.Frames.lean ====
/- The frame claims of the kernel, of its idealization and of the reference, and the idealization's ledger: the kernel's
   two by the generated frames, the reference's by its generated run, the ledger's entries by the named constants' table. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.KProof

open Idealize.ShloMosaic Idealize.SL.Sem

/-- The kernel over bits runs, leaves its arguments as they were and every counter at zero. -/
theorem frame_p : Cert.quiescent_Kernel (hKernel := Cert.Kernel.Gen.facts) := fun m ρ _ => Cert.Kernel.Gen.frame m ρ

/-- The idealized kernel runs, leaves its arguments as they were and every counter at zero. -/
theorem frame_pi : Cert.quiescent_KernelIdeal (hKernelIdeal := Cert.KernelIdeal.Gen.facts) :=
  fun m ρ _ => Cert.KernelIdeal.Gen.frame m ρ

/-- The reference runs, leaves its arguments as they were and every counter at zero: it has no counters. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

/-- The two named constants: the table gives `"inv_softcap"` the value `1/50` and `"softcap_log2e"` the value
    `50 / ln 2`. -/
theorem preserves : Cert.preserves_Kernel_KernelIdeal :=
  ⟨IdealRules.named_const.statement Cert.KernelIdeal.κ "inv_softcap" .f32 0x3CA3D70A#32 ((1 / 50 : ℝ) : EReal) rfl,
   IdealRules.named_const.statement Cert.KernelIdeal.κ "softcap_log2e" .f32 0x429044FE#32
     ((50 * (Real.log 2)⁻¹ : ℝ) : EReal) rfl⟩

end Cert.KProof

end
-- ==== Proof.KRun.lean ====
/- The idealized kernel's run with its results: every execution terminates, each result buffer holds what the last boundary
   of the run says, and the arguments are as they were. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory, the idealized kernel terminates with each of its seven results at the contents the last boundary of
    the run gives it, and with its arguments as launched. -/
theorem value_run : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_v12) = W5 m ρ c (Proc.devRef .tc main_v12)
      ∧ r.2.mem ((c.tc : Thread nD τ).loc main_v14) = W5 m ρ c (Proc.devRef .tc main_v14)
      ∧ r.2.mem ((c.tc : Thread nD τ).loc main_v15) = W5 m ρ c (Proc.devRef .tc main_v15)
      ∧ r.2.mem ((c.tc : Thread nD τ).loc main_v17) = W5 m ρ c (Proc.devRef .tc main_v17)
      ∧ r.2.mem ((c.tc : Thread nD τ).loc main_v18) = W5 m ρ c (Proc.devRef .tc main_v18)
      ∧ r.2.mem ((c.tc : Thread nD τ).loc main_v20) = W5 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v11 (by decide)),
       h c _ (mem_uc main_v12 (by decide)),
       h c _ (mem_uc main_v14 (by decide)),
       h c _ (mem_uc main_v15 (by decide)),
       h c _ (mem_uc main_v17 (by decide)),
       h c _ (mem_uc main_v18 (by decide)),
       h c _ (mem_uc main_v20 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Gen
-- ==== Proof.Spec.lean ====
/-
  The problem's numbers, apart from any program: the power-of-two exponent of a block, the scaled codes, the
  softcapped causal attention of one query row over the codes. Keys and rows are natural numbers here, so that both
  programs' index arithmetic meets the same terms.
-/
module

public import Idealize.ShloMosaic.Lib.ValueIdx
public import Idealize.ShloMosaic.Lib.IdealHost
public import Idealize.ShloMosaic.Lib.Pointwise

@[expose] public section

set_option maxRecDepth 16384

noncomputable section

namespace Cert.KProof

open Idealize.ShloMosaic

/-- The exponent a block's largest magnitude `a` is given: 0 at `a = 0`, else the floor of `log₂ (a · c)` plus one
    as a 32-bit integer, `c` the single-precision number nearest `1 / 448`. -/
def expo (a : EReal) : BitVec 32 :=
  if a = 0 then 0#32
  else Ideal.fptosi 32 (Ideal.liftRound Int.floor (Ideal.div (Ideal.log (a * Ideal.ofBits .f32 0x3B124925#32))
    (Ideal.log (Ideal.ofBits .f32 0x40000000#32))) + 1)

/-- Two to the power of a 32-bit integer read signed. -/
def pw (e : BitVec 32) : ℝ := Real.rpow 2 (e.toInt : ℝ)

theorem pw_pos (e : BitVec 32) : 0 < pw e := Real.rpow_pos_of_pos (by norm_num) _

/-- `exp2` of a 32-bit integer is its power of two. -/
theorem exp2_pw (e : BitVec 32) : Ideal.exp2 (((e.toInt : ℝ)) : EReal) = (pw e : EReal) := rfl

theorem ofBits_two : Ideal.ofBits .f32 0x40000000#32 = ((2 : ℝ) : EReal) := by
  simp [Ideal.ofBits, Ideal.ieee, -EReal.coe_mul]; norm_num

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul, -EReal.coe_neg]; norm_num

theorem ofBits_eighth : Ideal.ofBits .f32 0x3E000000#32 = ((1 / 8 : ℝ) : EReal) := by
  simp [Ideal.ofBits, Ideal.ieee, -EReal.coe_mul]; norm_num

theorem ofBits_50 : Ideal.ofBits .f32 0x42480000#32 = ((50 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

theorem ofBits_c : Ideal.ofBits .f32 0x3B124925#32 = ((9586981 * (2 : ℝ) ^ (-32 : ℤ) : ℝ) : EReal) := by
  simp [Ideal.ofBits, Ideal.ieee, -EReal.coe_mul]

/-- The host's power of two at a 32-bit integer. -/
theorem pow_pw (e : BitVec 32) : Ideal.pow (Ideal.ofBits .f32 0x40000000#32) (((e.toInt : ℝ)) : EReal) = (pw e : EReal) := by
  rw [ofBits_two]; rfl

/-- The code of an element `t` under a block's exponent `e`: `t · 2^(-e)` clipped to `[-448, 448]`. -/
def code (t : EReal) (e : BitVec 32) : EReal :=
  min ((448 : ℝ) : EReal) (max ((-448 : ℝ) : EReal) (t * (pw (-e) : EReal)))

/-- The code as a real number. -/
def codeR (t : EReal) (e : BitVec 32) : ℝ := (code t e).toReal

/-- A code is a real number, whatever the element. -/
theorem code_eq (t : EReal) (e : BitVec 32) : code t e = (codeR t e : EReal) := by
  unfold codeR
  refine (EReal.coe_toReal ?_ ?_).symm
  · exact ne_of_lt (lt_of_le_of_lt (min_le_left _ _) (EReal.coe_lt_top _))
  · refine ne_of_gt (lt_of_lt_of_le (EReal.bot_lt_coe (-448)) (le_min ?_ (le_max_left _ _)))
    exact EReal.coe_le_coe_iff.mpr (by norm_num)

/-- The exponent of a block whose largest magnitude is one is −8. -/
theorem expo_one : expo 1 = (-8 : BitVec 32) := by
  have hlog : Ideal.log (1 * Ideal.ofBits .f32 0x3B124925#32) = ((Real.log (9586981 * (2 : ℝ) ^ (-32 : ℤ)) : ℝ) : EReal) := by
    rw [one_mul, ofBits_c]
    show (if _ ≤ _ then _ else _) = _
    rw [if_neg (by norm_num)]
  have hlog2 : Ideal.log (Ideal.ofBits .f32 0x40000000#32) = ((Real.log 2 : ℝ) : EReal) := by
    rw [ofBits_two]
    show (if _ ≤ _ then _ else _) = _
    rw [if_neg (by norm_num)]
  have h2 : (0 : ℝ) < Real.log 2 := Real.log_pos (by norm_num)
  have hdiv : Ideal.div ((Real.log (9586981 * (2 : ℝ) ^ (-32 : ℤ)) : ℝ) : EReal) ((Real.log 2 : ℝ) : EReal)
      = ((Real.log (9586981 * (2 : ℝ) ^ (-32 : ℤ)) / Real.log 2 : ℝ) : EReal) := by
    unfold Ideal.div
    rw [if_neg (by exact_mod_cast h2.ne'), div_eq_mul_inv, EReal.coe_mul, EReal.coe_inv]
  have hfl : Int.floor (Real.log (9586981 * (2 : ℝ) ^ (-32 : ℤ)) / Real.log 2) = -9 := by
    rw [Int.floor_eq_iff]
    constructor
    · rw [le_div_iff₀ h2]
      have : Real.log ((2 : ℝ) ^ (-9 : ℤ)) ≤ Real.log (9586981 * (2 : ℝ) ^ (-32 : ℤ)) :=
        Real.log_le_log (by positivity) (by norm_num)
      rw [Real.log_zpow] at this
      exact_mod_cast this
    · rw [div_lt_iff₀ h2]
      have : Real.log (9586981 * (2 : ℝ) ^ (-32 : ℤ)) < Real.log ((2 : ℝ) ^ (-8 : ℤ)) :=
        Real.log_lt_log (by positivity) (by norm_num)
      rw [Real.log_zpow] at this
      push_cast at this ⊢
      linarith
  unfold expo
  rw [if_neg (by exact one_ne_zero), hlog, hlog2, hdiv]
  show Ideal.fptosi 32 (((Int.floor (Real.log (9586981 * (2 : ℝ) ^ (-32 : ℤ)) / Real.log 2) : ℤ) : ℝ) + 1) = _
  rw [hfl]
  have : ((((-9 : ℤ) : ℝ) : EReal) + 1) = ((-8 : ℝ) : EReal) := by
    rw [← EReal.coe_one, ← EReal.coe_add]; norm_num
  rw [this]
  unfold Ideal.fptosi
  rw [Ideal.toIntClamped_coe]
  norm_num
  decide

theorem pw_neg8 : pw (-8 : BitVec 32) = 1 / 256 := by
  unfold pw
  have : ((-8 : BitVec 32)).toInt = -8 := by decide
  rw [this]
  show (2 : ℝ) ^ (((-8 : ℤ) : ℝ)) = _
  rw [Real.rpow_intCast]; norm_num

theorem pw_negneg8 : pw (-(-8 : BitVec 32)) = 256 := by
  unfold pw
  have : (-(-8 : BitVec 32)).toInt = 8 := by decide
  rw [this]
  show (2 : ℝ) ^ (((8 : ℤ) : ℝ)) = _
  rw [Real.rpow_intCast]; norm_num

/-! ## The three tensors' codes and scales -/

/-- One argument: 32768 tokens of 2048 numbers. -/
abbrev Arr : Type := (⟨3, ![1, 32768, 2048]⟩ : Shape).Idx → EReal

/-- The element of token `s`, column `d`. -/
def el (X : Arr) (s d : ℕ) : EReal :=
  X (ix3 (0 : Fin 1) (⟨s % 32768, Nat.mod_lt _ (by norm_num)⟩ : Fin 32768) (⟨d % 2048, Nat.mod_lt _ (by norm_num)⟩ : Fin 2048))

theorem el_eq (X : Arr) (s : Fin 32768) (d : Fin 2048) : X (ix3 (0 : Fin 1) s d) = el X s.val d.val := by
  have h1 : (⟨s.val % 32768, Nat.mod_lt _ (by norm_num)⟩ : Fin 32768) = s := Fin.ext (Nat.mod_eq_of_lt s.isLt)
  have h2 : (⟨d.val % 2048, Nat.mod_lt _ (by norm_num)⟩ : Fin 2048) = d := Fin.ext (Nat.mod_eq_of_lt d.isLt)
  unfold el
  rw [h1, h2]

/-- A magnitude is not negative. -/
theorem abs_nonneg' (x : EReal) : 0 ≤ max x (-x) := by
  rcases le_total 0 x with h | h
  · exact le_max_of_le_left h
  · exact le_max_of_le_right (by simpa using EReal.neg_le_neg_iff.mpr h)

/-- The largest magnitude of head `h` in the block of 128 tokens `b`. -/
def amx (X : Arr) (b h : ℕ) : EReal :=
  Finset.univ.sup fun p : Fin 128 × Fin 64 => max (el X (b * 128 + p.1.val) (h * 64 + p.2.val)) (-el X (b * 128 + p.1.val) (h * 64 + p.2.val))

/-- What bounds the largest magnitude: what bounds every one of them. -/
theorem amx_le (X : Arr) (b h : ℕ) (B : EReal) : amx X b h ≤ B ↔ ∀ (r : Fin 128) (l : Fin 64),
    max (el X (b * 128 + r.val) (h * 64 + l.val)) (-el X (b * 128 + r.val) (h * 64 + l.val)) ≤ B := by
  unfold amx
  rw [Finset.sup_le_iff]
  exact ⟨fun h r l => h (r, l) (Finset.mem_univ _), fun h p _ => h p.1 p.2⟩

/-- The exponent of a block's head. -/
def ex (X : Arr) (b h : ℕ) : BitVec 32 := expo (amx X b h)

/-- The scale of a block's head. -/
def scl (X : Arr) (b h : ℕ) : ℝ := pw (ex X b h)

theorem scl_pos (X : Arr) (b h : ℕ) : 0 < scl X b h := pw_pos _

/-- The code of token `s`, column `d`. -/
def cd (X : Arr) (s d : ℕ) : ℝ := codeR (el X s d) (ex X (s / 128) (d / 64))

theorem cd_eq (X : Arr) (s d : ℕ) : code (el X s d) (ex X (s / 128) (d / 64)) = (cd X s d : EReal) := code_eq _ _

/-! ## The attention of one query -/

/-- The largest of the first `s + 1` scores. -/
def zmax (z : ℕ → ℝ) (s : ℕ) : ℝ := (Finset.range (s + 1)).sup' ⟨0, Finset.mem_range.mpr (Nat.succ_pos s)⟩ z

theorem le_zmax (z : ℕ → ℝ) {s k : ℕ} (h : k ≤ s) : z k ≤ zmax z s :=
  Finset.le_sup' z (Finset.mem_range.mpr (Nat.lt_succ_of_le h))

theorem exists_zmax (z : ℕ → ℝ) (s : ℕ) : ∃ k, k ≤ s ∧ zmax z s = z k := by
  obtain ⟨k, hk, e⟩ := Finset.exists_mem_eq_sup' (⟨0, Finset.mem_range.mpr (Nat.succ_pos s)⟩ : (Finset.range (s + 1)).Nonempty) z
  exact ⟨k, Nat.le_of_lt_succ (Finset.mem_range.mp hk), e⟩

/-- An extended real whose upper bounds are those of the monotone images of the first `s + 1` scores is the image of
    the largest. -/
theorem eq_zmax (z : ℕ → ℝ) (s : ℕ) (f : ℝ → ℝ) (hf : Monotone f) (M : EReal)
    (hM : ∀ B : EReal, M ≤ B ↔ ∀ k, k ≤ s → ((f (z k) : ℝ) : EReal) ≤ B) : M = ((f (zmax z s) : ℝ) : EReal) := by
  refine eq_of_forall_ge_iff fun B => (hM B).trans ⟨fun h => ?_, fun h k hk => ?_⟩
  · obtain ⟨k, hk, e⟩ := exists_zmax z s
    rw [e]; exact h k hk
  · exact (EReal.coe_le_coe_iff.mpr (hf (le_zmax z hk))).trans h

theorem tanh_mono : Monotone Real.tanh := by
  intro a b h
  rw [Real.tanh_eq_sinh_div_cosh, Real.tanh_eq_sinh_div_cosh, div_le_div_iff₀ (Real.cosh_pos a) (Real.cosh_pos b)]
  have : 0 ≤ Real.sinh (b - a) := Real.sinh_nonneg_iff.mpr (sub_nonneg.mpr h)
  rw [Real.sinh_sub] at this
  linarith

/-- The softcapped score's weight of key `k` for the query at position `s`, over the largest: zero past the query. -/
def prob (z : ℕ → ℝ) (s k : ℕ) : ℝ :=
  if k ≤ s then Real.exp (50 * Real.tanh (z k) - 50 * Real.tanh (zmax z s)) else 0

theorem prob_nonneg (z : ℕ → ℝ) (s k : ℕ) : 0 ≤ prob z s k := by
  unfold prob; split
  · exact (Real.exp_pos _).le
  · exact le_rfl

/-- Clipping to `[-448, 448]`. -/
def clip (x : ℝ) : ℝ := min 448 (max (-448) x)

theorem clip_zero : clip 0 = 0 := by unfold clip; norm_num

theorem coe_clip (x : ℝ) : min ((448 : ℝ) : EReal) (max ((-448 : ℝ) : EReal) (x : EReal)) = (clip x : EReal) := by
  unfold clip
  rw [EReal.coe_strictMono.monotone.map_min, EReal.coe_strictMono.monotone.map_max]

/-- The attention row: the clipped weights against the value codes block by block, each block's sum under its value
    scale, over the weights' total. -/
def attn (z v w : ℕ → ℝ) (s : ℕ) : ℝ :=
  (∑ b ∈ Finset.range 256, (∑ r ∈ Finset.range 128, clip (prob z s (b * 128 + r) * 256) * v (b * 128 + r)) * w b)
    * ((1 / 256) / ∑ b ∈ Finset.range 256, ∑ r ∈ Finset.range 128, prob z s (b * 128 + r))

/-- The scaled score of key `k` for query `s` under head `h`, over the cap. -/
def zz (X K : Arr) (h s k : ℕ) : ℝ :=
  (∑ l ∈ Finset.range 64, cd K k (h * 64 + l) * cd X s (h * 64 + l)) * (scl X (s / 128) h * (1 / 8) * (1 / 50) * scl K (k / 128) h)

/-- The result at token `s`, column `d`. -/
def yy (X K V : Arr) (s d : ℕ) : ℝ :=
  attn (zz X K (d / 64) s) (fun k => cd V k d) (fun b => scl V b (d / 64)) s

end Cert.KProof
-- ==== Proof.APay.lean ====
/-
  The attention step's vector terms, read at an index over the reals: the running maxima, the weights, their sums, their products
  with the value codes.
-/
module

public import proofs.«01_k».proof.Proof.Spec
public import proofs.«01_k».proof.Proof.Gen.KernelIdeal.Frame
public import Idealize.ShloMosaic.Lib.Pointwise

@[expose] public section

set_option maxRecDepth 16384

noncomputable section

namespace Cert.KProof.A

open Cert.KernelIdeal Cert.KernelIdeal.Gen Idealize.ShloMosaic Idealize.ShloMosaic.TcCoe Idealize.SL.Sem

theorem named_cap : Named.named (F := Ideal) Cert.KernelIdeal.κ "inv_softcap" (φ := .f32) 0x3CA3D70A#32 = ((1 / 50 : ℝ) : EReal) :=
  IdealRules.named_const.ideal_named_scalar _ _ _ _ rfl
theorem named_log2e : Named.named (F := Ideal) Cert.KernelIdeal.κ "softcap_log2e" (φ := .f32) 0x429044FE#32 = ((50 * (Real.log 2)⁻¹ : ℝ) : EReal) :=
  IdealRules.named_const.ideal_named_scalar _ _ _ _ rfl

theorem slt_128 : ∀ q : Fin 256, IntOp.cmpi CmpIPredicate.slt (BitVec.ofNat 32 q.val) 128#32 = if q.val < 128 then 1#1 else 0#1 := by decide +kernel

/-- The causal mask holds where the key is at most the query. -/
theorem sle_nat (r q : ℕ) (hr : r < 256) (hq : q < 256) : IntOp.cmpi CmpIPredicate.sle (BitVec.ofNat 32 r) (BitVec.ofNat 32 q) = if r ≤ q then 1#1 else 0#1 := by
  show BitVec.ofBool ((BitVec.ofNat 32 r).sle (BitVec.ofNat 32 q)) = _
  have e : (BitVec.ofNat 32 r).sle (BitVec.ofNat 32 q) = decide (r ≤ q) := by
    rw [BitVec.sle_eq_decide]
    have h0 : ∀ x : Fin 256, (BitVec.ofNat 32 x.val).toInt = x.val := by decide +kernel
    have h1 : (BitVec.ofNat 32 r).toInt = r := h0 ⟨r, hr⟩
    have h2 : (BitVec.ofNat 32 q).toInt = q := h0 ⟨q, hq⟩
    rw [h1, h2]; simp
  rw [e]
  by_cases h : r ≤ q
  · rw [if_pos h, decide_eq_true h]; rfl
  · rw [if_neg h, decide_eq_false h]; rfl

/-- The query side of a score's factor. -/
theorem pay16_at (a b : ℝ) (g : Fin 8) (q : Fin 256) : k1_pay16 (F := Ideal) (a : EReal) (b : EReal) (ix2 g q) = (((if q.val < 128 then a else b) * (1 / 8) * (1 / 50) : ℝ) : EReal) := by
  pointwise [k1_pay16]
  rw [slt_128, ofBits_eighth, named_cap]
  by_cases h : q.val < 128
  · rw [if_pos h, if_pos h]; show (a : EReal) * _ * _ = _; norm_cast
  · rw [if_neg h, if_neg h]; show (b : EReal) * _ * _ = _; norm_cast

/-- For the query in column `q`, a tile of 256 keys has the scores `z`, each the codes' product times the factor of the
    query and of the key's half. -/
def Sc (v15 : Vec Ideal S128x256 .fp8e4m3) (v33 : FVec Ideal S8x256 .f32) (kt : Vec Ideal S256x128 .fp8e4m3) (a b : EReal) (q : Fin 256) (z : ℕ → ℝ) : Prop :=
  ∃ (s : ℕ → ℝ) (c α β : ℝ), (∀ r : Fin 256, (∑ d : Fin 128, (kt (ix2 r d) : EReal) * v15 (ix2 d q)) = (s r.val : EReal)) ∧ (∀ g : Fin 8, v33 (ix2 g q) = (c : EReal)) ∧
    a = (α : EReal) ∧ b = (β : EReal) ∧ 0 < c ∧ 0 < α ∧ 0 < β ∧ ∀ r < 256, z r = s r * (c * if r < 128 then α else β)

variable {v15 : Vec Ideal S128x256 .fp8e4m3} {v33 : FVec Ideal S8x256 .f32} {kt : Vec Ideal S256x128 .fp8e4m3} {a b : EReal} {q : Fin 256} {z : ℕ → ℝ}

theorem fold_mul_le {n : ℕ} (f : Fin n → EReal) {c : ℝ} (hc : 0 < c) (B : EReal) :
    Finset.fold max (⊥ : EReal) f Finset.univ * (c : EReal) ≤ B ↔ ∀ x, f x * (c : EReal) ≤ B := by
  have h0 : (0 : EReal) < (c : EReal) := EReal.coe_pos.mpr hc
  rw [← EReal.le_div_iff_mul_le h0 (EReal.coe_ne_top c), Finset.fold_max_le]
  constructor
  · intro H x
    exact (EReal.le_div_iff_mul_le h0 (EReal.coe_ne_top c)).mp (H.2 x (Finset.mem_univ _))
  · intro H
    exact ⟨bot_le, fun x _ => (EReal.le_div_iff_mul_le h0 (EReal.coe_ne_top c)).mpr (H x)⟩

/-- What bounds the running maxima after a whole tile. -/
theorem pay18_le (H : Sc v15 v33 kt a b q z) (m : FVec Ideal S8x256 .f32) (g : Fin 8) (B : EReal) :
    k1_pay18 v15 v33 m kt a b (ix2 g q) ≤ B ↔ (m (ix2 g q) : EReal) ≤ B ∧ ∀ r < 256, r % 8 = g.val → (z r : EReal) ≤ B := by
  obtain ⟨s, c, α, β, hs, hc, rfl, rfl, c0, α0, β0, hz⟩ := H
  pointwise [k1_pay18]
  rw [ofBits_bot, hc g, ← EReal.coe_mul, ← EReal.coe_mul, max_le_iff, max_le_iff, fold_mul_le _ (mul_pos c0 α0), fold_mul_le _ (mul_pos c0 β0), and_assoc]
  refine and_congr_right fun _ => ?_
  simp only [hs, ← EReal.coe_mul]
  constructor
  · intro ⟨h1, h2⟩ r hr hg
    rw [hz r hr]
    by_cases h : r < 128
    · rw [if_pos h]
      have := h1 ⟨r / 8, by omega⟩
      rwa [show (⟨r / 8, by omega⟩ : Fin 16).val * 8 + g.val = r by show r / 8 * 8 + g.val = r; omega] at this
    · rw [if_neg h]
      have := h2 ⟨(r - 128) / 8, by omega⟩
      rwa [show 128 + (⟨(r - 128) / 8, by omega⟩ : Fin 16).val * 8 + g.val = r by show 128 + (r - 128) / 8 * 8 + g.val = r; omega] at this
  · intro h
    constructor
    · intro x
      have := h (x.val * 8 + g.val) (by omega) (by omega)
      rwa [hz _ (by omega), if_pos (by omega)] at this
    · intro x
      have := h (128 + x.val * 8 + g.val) (by omega) (by omega)
      rwa [hz _ (by omega), if_neg (by omega)] at this

theorem sel_le (r : ℕ) (hr : r < 256) (s c : ℝ) (hc : 0 < c) (B : EReal) :
    (Scalar.select (IntOp.cmpi CmpIPredicate.sle (BitVec.ofNat 32 r) (BitVec.ofNat 32 q.val)) (s : EReal) ⊥ : EReal) * (c : EReal) ≤ B ↔ (r ≤ q.val → ((s * c : ℝ) : EReal) ≤ B) := by
  rw [sle_nat r q.val hr q.isLt]
  by_cases h : r ≤ q.val
  · rw [if_pos h]
    show (s : EReal) * (c : EReal) ≤ B ↔ _
    rw [EReal.coe_mul]; simp [h]
  · rw [if_neg h]
    show (⊥ : EReal) * (c : EReal) ≤ B ↔ _
    rw [EReal.bot_mul_coe_of_pos hc]; simp [h]

/-- The largest score through the diagonal tile, through the cap. -/
theorem pay20_eq (H : Sc v15 v33 kt a b q z) (m : FVec Ideal S8x256 .f32) : ∃ M : EReal,
    k1_pay20 k1_pay13 v15 v33 m kt a b (ix2 0 q) = Ideal.tanh M * ((50 * (Real.log 2)⁻¹ : ℝ) : EReal) ∧
    ∀ B : EReal, M ≤ B ↔ (∀ g : Fin 8, (m (ix2 g q) : EReal) ≤ B) ∧ ∀ r ≤ q.val, (z r : EReal) ≤ B := by
  obtain ⟨s, c, α, β, hs, hc, rfl, rfl, c0, α0, β0, hz⟩ := H
  pointwise [k1_pay20, k1_pay13]
  rw [ofBits_bot, named_log2e]
  refine ⟨_, rfl, fun B => ?_⟩
  rw [Finset.fold_max_le]
  simp only [hc, ← EReal.coe_mul, max_le_iff, fold_mul_le _ (mul_pos c0 α0), fold_mul_le _ (mul_pos c0 β0), hs, Finset.mem_univ, true_implies, bot_le, true_and]
  have e1 : ∀ (x : Fin 16) (g : Fin 8), x.val * 8 + g.val < 256 := fun x g => by omega
  have e2 : ∀ (x : Fin 16) (g : Fin 8), 128 + x.val * 8 + g.val < 256 := fun x g => by omega
  simp only [sel_le _ (e1 _ _) _ _ (mul_pos c0 α0), sel_le _ (e2 _ _) _ _ (mul_pos c0 β0)]
  constructor
  · intro h
    refine ⟨fun g => (h g).1.1, fun r hr => ?_⟩
    have hq := q.isLt
    rw [hz r (by omega)]
    have hg := h ⟨r % 8, by omega⟩
    by_cases h8 : r < 128
    · rw [if_pos h8]
      have := hg.1.2 ⟨r / 8, by omega⟩
      have e : (⟨r / 8, by omega⟩ : Fin 16).val * 8 + (⟨r % 8, by omega⟩ : Fin 8).val = r := by show r / 8 * 8 + r % 8 = r; omega
      rw [e] at this; exact this hr
    · rw [if_neg h8]
      have := hg.2 ⟨(r - 128) / 8, by omega⟩
      have e : 128 + (⟨(r - 128) / 8, by omega⟩ : Fin 16).val * 8 + (⟨r % 8, by omega⟩ : Fin 8).val = r := by show 128 + (r - 128) / 8 * 8 + r % 8 = r; omega
      rw [e] at this; exact this hr
  · intro ⟨h1, h2⟩ g
    refine ⟨⟨h1 g, fun x hx => ?_⟩, fun x hx => ?_⟩
    · have := h2 _ hx
      rwa [hz _ (by omega), if_pos (by omega)] at this
    · have := h2 _ hx
      rwa [hz _ (by omega), if_neg (by omega)] at this

/-- A weight under the query's shift. -/
def wt (t : ℝ) (x : ℝ) : ℝ := Real.rpow 2 (Real.tanh x * (50 * (Real.log 2)⁻¹) - t)

theorem exp2_tanh (x t : ℝ) : Ideal.exp2 (Ideal.tanh (x : EReal) * ((50 * (Real.log 2)⁻¹ : ℝ) : EReal) - (t : EReal)) = (wt t x : EReal) := by
  show Ideal.exp2 ((Real.tanh x : EReal) * ((50 * (Real.log 2)⁻¹ : ℝ) : EReal) - (t : EReal)) = _
  rw [← EReal.coe_mul, ← EReal.coe_sub]; rfl

/-- A whole tile's weights. -/
theorem pay1_at (H : Sc v15 v33 kt a b q z) (v99 : FVec Ideal S1x256 .f32) (t : ℝ) (ht : v99 (ix2 0 q) = (t : EReal)) (h : Fin 2) (j : Fin 16) (g : Fin 8) :
    k1_pay1 v15 v33 v99 kt a b (ix4 h j g q) = (wt t (z (h.val * 128 + j.val * 8 + g.val)) : EReal) := by
  obtain ⟨s, c, α, β, hs, hc, rfl, rfl, c0, α0, β0, hz⟩ := H
  pointwise [k1_pay1]
  rw [ht, hc g, hs, hs, named_log2e, ← EReal.coe_mul, ← EReal.coe_mul, ← EReal.coe_mul, ← EReal.coe_mul]
  by_cases h1 : h.val < 1
  · rw [dif_pos h1, hz _ (by omega), if_pos (by omega), show h.val * 128 + j.val * 8 + g.val = j.val * 8 + g.val by omega]
    exact exp2_tanh _ _
  · rw [dif_neg h1, hz _ (by omega), if_neg (by omega), show h.val * 128 + j.val * 8 + g.val = 128 + j.val * 8 + g.val by omega]
    exact exp2_tanh _ _

/-- The diagonal tile's weights: zero past the query. -/
theorem pay38_at (H : Sc v15 v33 kt a b q z) (v99 : FVec Ideal S1x256 .f32) (t : ℝ) (ht : v99 (ix2 0 q) = (t : EReal)) (h : Fin 2) (j : Fin 16) (g : Fin 8) :
    k1_pay38 v33 v99 (k1_pay35 v15 kt) (k1_pay36 k1_pay13) (k1_pay37 v15 kt) a b (ix4 h j g q) = ((if h.val * 128 + j.val * 8 + g.val ≤ q.val then wt t (z (h.val * 128 + j.val * 8 + g.val)) else 0 : ℝ) : EReal) := by
  obtain ⟨s, c, α, β, hs, hc, rfl, rfl, c0, α0, β0, hz⟩ := H
  pointwise [k1_pay38, k1_pay37, k1_pay36, k1_pay35, k1_pay13]
  rw [ht, hc g, hs, hs, named_log2e, ← EReal.coe_mul, ← EReal.coe_mul, ← EReal.coe_mul, ← EReal.coe_mul, sle_nat _ _ (by omega) q.isLt]
  by_cases hq : h.val * 128 + j.val * 8 + g.val ≤ q.val
  · rw [if_pos hq, if_pos hq]
    by_cases h1 : h.val < 1
    · rw [dif_pos h1, hz _ (by omega), if_pos (by omega), show h.val * 128 + j.val * 8 + g.val = j.val * 8 + g.val by omega]
      exact exp2_tanh _ _
    · rw [dif_neg h1, hz _ (by omega), if_neg (by omega), show h.val * 128 + j.val * 8 + g.val = 128 + j.val * 8 + g.val by omega]
      exact exp2_tanh _ _
  · rw [if_neg hq, if_neg hq]; rfl

/-- A real-valued sum over `Fin n`, as a sum over a range. -/
theorem coe_sum (n : ℕ) (f : ℕ → ℝ) : (∑ x : Fin n, ((f x.val : ℝ) : EReal)) = ((∑ x ∈ Finset.range n, f x : ℝ) : EReal) := by
  rw [← Fin.sum_univ_eq_sum_range f n]
  exact (map_sum (⟨⟨Real.toEReal, EReal.coe_zero⟩, EReal.coe_add⟩ : ℝ →+ EReal) (fun x : Fin n => f x.val) Finset.univ).symm

/-- The sums of a tile's weights per sublane, and its codes. -/
theorem pay2_at {v99 : FVec Ideal S1x256 .f32} {p : ℕ → ℝ} (hp : ∀ (h : Fin 2) (j : Fin 16) (g : Fin 8), k1_pay1 v15 v33 v99 kt a b (ix4 h j g q) = (p (h.val * 128 + j.val * 8 + g.val) : EReal)) (g : Fin 8) :
    k1_pay2 v15 v33 v99 kt a b (ix2 g q) = ((∑ j ∈ Finset.range 32, p (j * 8 + g.val) : ℝ) : EReal) := by
  pointwise [k1_pay2]
  rw [← coe_sum 32 (fun j => p (j * 8 + g.val))]
  refine Finset.sum_congr rfl fun x _ => ?_
  rw [hp]
  show ((p (x.val / 16 * 128 + x.val % 16 * 8 + g.val) : ℝ) : EReal) = _
  rw [show x.val / 16 * 128 + x.val % 16 * 8 + g.val = x.val * 8 + g.val by omega]

theorem pay3_at {v99 : FVec Ideal S1x256 .f32} {p : ℕ → ℝ} (hp : ∀ (h : Fin 2) (j : Fin 16) (g : Fin 8), k1_pay1 v15 v33 v99 kt a b (ix4 h j g q) = (p (h.val * 128 + j.val * 8 + g.val) : EReal)) (r : Fin 256) :
    k1_pay3 v15 v33 v99 kt a b (ix2 r q) = (clip (p r.val) : EReal) := by
  pointwise [k1_pay3]
  rw [hp, ofBits_448, ofBits_neg448]
  show min _ (max _ ((p (r.val / 128 * 128 + r.val / 8 % 16 * 8 + r.val % 8) : ℝ) : EReal)) = _
  rw [show r.val / 128 * 128 + r.val / 8 % 16 * 8 + r.val % 8 = r.val by omega]
  exact coe_clip _

/-- The value codes of a tile: under each half, its own keys' codes and zero at the other half's. -/
def Vt (vt : Vec Ideal S1x2x64x256 .fp8e4m3) (l : ℕ) (w : ℕ → ℝ) : Prop := ∀ (b : Fin 2) (h : l < 64) (x : Fin 256), vt (ix4 0 b ⟨l, h⟩ x) = ((if x.val / 128 = b.val then w x.val else 0 : ℝ) : EReal)

/-- The half's clipped weights against its value codes. -/
def hv (p w : ℕ → ℝ) (b : ℕ) : ℝ := ∑ r ∈ Finset.range 128, clip (p (b * 128 + r)) * w (b * 128 + r)

theorem sum_half (p w : ℕ → ℝ) (b : Fin 2) : ∑ x ∈ Finset.range 256, (if x / 128 = b.val then w x else 0) * clip (p x) = hv p w b.val := by
  unfold hv
  rw [show (256 : ℕ) = 128 + 128 from rfl, Finset.sum_range_add]
  match b with
  | ⟨0, _⟩ =>
    rw [Finset.sum_eq_zero (s := Finset.range 128) (f := fun x => (if (128 + x) / 128 = _ then w (128 + x) else 0) * clip (p (128 + x))), add_zero]
    · refine Finset.sum_congr rfl fun x hx => ?_
      have := Finset.mem_range.mp hx
      rw [if_pos (show x / 128 = 0 by omega), show 0 * 128 + x = x by omega, mul_comm]
    · intro x hx
      have := Finset.mem_range.mp hx
      rw [if_neg (show ¬ (128 + x) / 128 = 0 by omega), zero_mul]
  | ⟨1, _⟩ =>
    rw [Finset.sum_eq_zero (s := Finset.range 128) (f := fun x => (if x / 128 = _ then w x else 0) * clip (p x)), zero_add]
    · refine Finset.sum_congr rfl fun x hx => ?_
      have := Finset.mem_range.mp hx
      rw [if_pos (show (128 + x) / 128 = 1 by omega), show 1 * 128 + x = 128 + x by omega, mul_comm]
    · intro x hx
      have := Finset.mem_range.mp hx
      rw [if_neg (show ¬ x / 128 = 1 by omega), zero_mul]

theorem vt_sum {vt : Vec Ideal S1x2x64x256 .fp8e4m3} {l : ℕ} {w p : ℕ → ℝ} (hv' : Vt vt l w) (hl : l < 64) {pc : FVec Ideal S256x256 .fp8e4m3} (hp : ∀ r : Fin 256, pc (ix2 r q) = (clip (p r.val) : EReal)) (b : Fin 2) :
    (∑ x : Fin 256, (vt (ix4 0 b ⟨l, hl⟩ x) : EReal) * pc (ix2 x q)) = (hv p w b.val : EReal) := by
  rw [← sum_half, ← coe_sum 256 (fun x => (if x / 128 = b.val then w x else 0) * clip (p x))]
  refine Finset.sum_congr rfl fun x _ => ?_
  rw [hv' b hl x, hp, ← EReal.coe_mul]

theorem pay28_at {vt : Vec Ideal S1x2x64x256 .fp8e4m3} {l : ℕ} {w p : ℕ → ℝ} (hvt : Vt vt l w) (hl : l < 64) {pc : FVec Ideal S256x256 .fp8e4m3} (hp : ∀ r : Fin 256, pc (ix2 r q) = (clip (p r.val) : EReal))
    (o : Vec Ideal S64x256 .f32) (y u : ℝ) (ho : o (ix2 ⟨l, hl⟩ q) = (y : EReal)) : k1_pay28 pc vt o (u : EReal) (ix2 ⟨l, hl⟩ q) = ((y + hv p w 0 * u : ℝ) : EReal) := by
  pointwise [k1_pay28, k1_pay27]
  have := vt_sum hvt hl hp 0
  rw [ho]
  have e : ∀ x : Fin 256, vt (ix4 0 ⟨l / 64, by omega⟩ ⟨l % 64, by omega⟩ x) = vt (ix4 0 0 ⟨l, hl⟩ x) := fun x => by
    congr 2
    · exact Fin.ext (show l / 64 = 0 by omega)
    · exact Fin.ext (show l % 64 = l by omega)
  rw [Finset.sum_congr rfl fun x _ => by rw [e x], this, ← EReal.coe_mul, ← EReal.coe_add]; rfl

theorem pay29_at {vt : Vec Ideal S1x2x64x256 .fp8e4m3} {l : ℕ} {w p : ℕ → ℝ} (hvt : Vt vt l w) (hl : l < 64) {pc : FVec Ideal S256x256 .fp8e4m3} (hp : ∀ r : Fin 256, pc (ix2 r q) = (clip (p r.val) : EReal))
    (o : Vec Ideal S64x256 .f32) (y u : ℝ) (ho : o (ix2 ⟨l, hl⟩ q) = (y : EReal)) : k1_pay29 pc vt o (u : EReal) (ix2 ⟨l, hl⟩ q) = ((y + hv p w 1 * u : ℝ) : EReal) := by
  pointwise [k1_pay29, k1_pay27]
  have := vt_sum hvt hl hp 1
  rw [ho]
  have e : ∀ x : Fin 256, vt (ix4 0 ⟨(64 + l) / 64, by omega⟩ ⟨(64 + l) % 64, by omega⟩ x) = vt (ix4 0 1 ⟨l, hl⟩ x) := fun x => by
    congr 2
    · exact Fin.ext (show (64 + l) / 64 = 1 by omega)
    · exact Fin.ext (show (64 + l) % 64 = l by omega)
  rw [Finset.sum_congr rfl fun x _ => by rw [e x], this, ← EReal.coe_mul, ← EReal.coe_add]; rfl

/-- The diagonal tile's sums, codes and products, in the whole tile's terms. -/
def dcode (v33 : FVec Ideal S8x256 .f32) (v99 : FVec Ideal S1x256 .f32) (x : FVec Ideal S2x16x8x256 .f32) (m : IVec S2x16x8x256 1) (y : FVec Ideal S16x8x256 .f32) (a b : EReal) : FVec Ideal S256x256 .fp8e4m3 :=
  shapeCast S256x256 (truncf .fp8e4m3 (minimumf (broadcast S2x16x8x256 (Scalar.ofBits .f32 0x43E00000#32)) (maximumf (broadcast S2x16x8x256 (Scalar.ofBits .f32 0xC3E00000#32)) (k1_pay38 v33 v99 x m y a b))) bitsLt_fp8e4m3_f32) shapeCasts_S2x16x8x256_S256x256

theorem pay40_eq (v33 : FVec Ideal S8x256 .f32) (v99 : FVec Ideal S1x256 .f32) (x : FVec Ideal S2x16x8x256 .f32) (m : IVec S2x16x8x256 1) (y : FVec Ideal S16x8x256 .f32) (a b : EReal) (vt : Vec Ideal S1x2x64x256 .fp8e4m3) :
    k1_pay40 v33 v99 x m y a b vt = k1_pay27 (dcode v33 v99 x m y a b) vt := rfl

theorem dcode_at {v99 : FVec Ideal S1x256 .f32} {x : FVec Ideal S2x16x8x256 .f32} {m : IVec S2x16x8x256 1} {y : FVec Ideal S16x8x256 .f32} {p : ℕ → ℝ}
    (hp : ∀ (h : Fin 2) (j : Fin 16) (g : Fin 8), k1_pay38 v33 v99 x m y a b (ix4 h j g q) = (p (h.val * 128 + j.val * 8 + g.val) : EReal)) (r : Fin 256) :
    dcode v33 v99 x m y a b (ix2 r q) = (clip (p r.val) : EReal) := by
  pointwise [dcode]
  rw [hp, ofBits_448, ofBits_neg448]
  show min _ (max _ ((p (r.val / 128 * 128 + r.val / 8 % 16 * 8 + r.val % 8) : ℝ) : EReal)) = _
  rw [show r.val / 128 * 128 + r.val / 8 % 16 * 8 + r.val % 8 = r.val by omega]
  exact coe_clip _

theorem pay39_at {v99 : FVec Ideal S1x256 .f32} {x : FVec Ideal S2x16x8x256 .f32} {m : IVec S2x16x8x256 1} {y : FVec Ideal S16x8x256 .f32} {p : ℕ → ℝ}
    (hp : ∀ (h : Fin 2) (j : Fin 16) (g : Fin 8), k1_pay38 v33 v99 x m y a b (ix4 h j g q) = (p (h.val * 128 + j.val * 8 + g.val) : EReal)) (g : Fin 8) :
    k1_pay39 v33 v99 x m y a b (ix2 g q) = ((∑ j ∈ Finset.range 32, p (j * 8 + g.val) : ℝ) : EReal) := by
  pointwise [k1_pay39]
  rw [← coe_sum 32 (fun j => p (j * 8 + g.val))]
  refine Finset.sum_congr rfl fun x _ => ?_
  rw [hp]
  show ((p (x.val / 16 * 128 + x.val % 16 * 8 + g.val) : ℝ) : EReal) = _
  rw [show x.val / 16 * 128 + x.val % 16 * 8 + g.val = x.val * 8 + g.val by omega]

theorem pay41_eq (pc : FVec Ideal S256x256 .fp8e4m3) (vt : Vec Ideal S1x2x64x256 .fp8e4m3) (o : Vec Ideal S64x256 .f32) (u : EReal) : k1_pay41 (k1_pay27 pc vt) o u = k1_pay28 pc vt o u := rfl
theorem pay42_eq (pc : FVec Ideal S256x256 .fp8e4m3) (vt : Vec Ideal S1x2x64x256 .fp8e4m3) (o : Vec Ideal S64x256 .f32) (u : EReal) : k1_pay42 (k1_pay27 pc vt) o u = k1_pay29 pc vt o u := rfl

/-- The query's exponent: its largest weight being one, `-8`. -/
theorem pay22_at {v81 : FVec Ideal S1x256 .f32} (h : v81 (ix2 0 q) = (1 : EReal)) : k1_pay22 v81 (ix2 0 q) = (-8 : BitVec 32) := by
  have : k1_pay22 v81 (ix2 0 q) = expo (v81 (ix2 0 q)) := by
    pointwise [k1_pay22]
    rfl
  rw [this, h, expo_one]
theorem pay23_at {v81 : FVec Ideal S1x256 .f32} (h : v81 (ix2 0 q) = (1 : EReal)) : k1_pay23 v81 (ix2 0 q) = ((1 / 256 : ℝ) : EReal) := by
  have : k1_pay23 v81 (ix2 0 q) = Ideal.exp2 ((((k1_pay22 v81 (ix2 0 q)).toInt : ℝ)) : EReal) := by
    pointwise [k1_pay23]
    rfl
  rw [this, pay22_at h, exp2_pw, pw_neg8]
theorem pay24_at {v79 v81 : FVec Ideal S1x256 .f32} (h : v81 (ix2 0 q) = (1 : EReal)) (t : ℝ) (ht : v79 (ix2 0 q) = (t : EReal)) : k1_pay24 v79 v81 (ix2 0 q) = ((t + (-8) : ℝ) : EReal) := by
  have : k1_pay24 v79 v81 (ix2 0 q) = (v79 (ix2 0 q) : EReal) + ((((k1_pay22 v81 (ix2 0 q)).toInt : ℝ)) : EReal) := by
    pointwise [k1_pay24]
    rfl
  rw [this, pay22_at h, ht, show ((-8 : BitVec 32).toInt) = -8 by decide, ← EReal.coe_add]
  norm_num
theorem pay21_at {m : FVec Ideal S8x256 .f32} (t : ℝ) (ht : k1_pay20 k1_pay13 v15 v33 m kt a b (ix2 0 q) = (t : EReal)) : k1_pay21 k1_pay13 v15 v33 m kt a b (ix2 0 q) = (1 : EReal) := by
  pointwise [k1_pay21]
  rw [ht, ← EReal.coe_sub, sub_self]
  show (((Real.rpow 2 0 : ℝ)) : EReal) = 1
  rw [show Real.rpow 2 0 = 1 from Real.rpow_zero 2]; rfl

/-- Under the query's shift by its largest score, a weight is 256 times the reference's. -/
theorem wt_eq (x M : ℝ) : wt (Real.tanh M * (50 * (Real.log 2)⁻¹) + (-8)) x = Real.exp (50 * Real.tanh x - 50 * Real.tanh M) * 256 := by
  unfold wt
  have l2 : Real.log 2 ≠ 0 := (Real.log_pos (by norm_num)).ne'
  show (2 : ℝ) ^ (_ : ℝ) = _
  rw [Real.rpow_def_of_pos (by norm_num), show (256 : ℝ) = Real.exp (Real.log 2 * 8) by
    rw [Real.exp_mul, Real.exp_log (by norm_num)]; norm_num, ← Real.exp_add]
  congr 1
  field_simp
  ring

end Cert.KProof.A
-- ==== Proof.ALoop.lean ====
/-
  One head's attention over the key tiles, as the kernel walks them: the running maxima, then the weights' sums and the
  weighted value codes, tile by tile, and the quotient at the end.
-/
module

public import proofs.«01_k».proof.Proof.APay
public import Idealize.ShloMosaic.Lib.WritesUnit

@[expose] public section

set_option maxRecDepth 16384

noncomputable section

namespace Cert.KProof.A

open Cert.KernelIdeal Cert.KernelIdeal.Gen Idealize.ShloMosaic Idealize.ShloMosaic.TcCoe Idealize.SL.Sem

/-- A sum over `n` blocks of `m` is the sum over all of them. -/
theorem sum_tiles (m : ℕ) (f : ℕ → ℝ) : ∀ n : ℕ, ∑ b ∈ Finset.range n, ∑ r ∈ Finset.range m, f (b * m + r) = ∑ x ∈ Finset.range (n * m), f x
  | 0 => by simp
  | n + 1 => by rw [Finset.sum_range_succ, sum_tiles m f n, Nat.succ_mul, Finset.sum_range_add]

/-- A sum of a sequence that is zero from `a` on does not depend on where it stops. -/
theorem sum_stop (f : ℕ → ℝ) (a b : ℕ) (hab : a ≤ b) (hf : ∀ x, a ≤ x → f x = 0) : ∑ x ∈ Finset.range a, f x = ∑ x ∈ Finset.range b, f x := by
  refine Finset.sum_subset (fun x hx => Finset.mem_range.mpr (by have := Finset.mem_range.mp hx; omega)) fun x _ hx => hf x ?_
  exact not_lt.mp fun h => hx (Finset.mem_range.mpr h)

section Head

variable {v15 : Vec Ideal S128x256 .fp8e4m3} {v33 : FVec Ideal S8x256 .f32} {q : Fin 256} {n : ℕ}
variable {kt : ℕ → Vec Ideal S256x128 .fp8e4m3} {ka kb : ℕ → EReal} {z : ℕ → ℝ}

/-- The tiles' scores: tile `t`'s key `r` has the score `z (256 t + r)`. -/
def Scs (v15 : Vec Ideal S128x256 .fp8e4m3) (v33 : FVec Ideal S8x256 .f32) (q : Fin 256) (n : ℕ) (kt : ℕ → Vec Ideal S256x128 .fp8e4m3) (ka kb : ℕ → EReal) (z : ℕ → ℝ) : Prop :=
  ∀ t ≤ n, Sc v15 v33 (kt t) (ka t) (kb t) q (fun r => z (t * 256 + r))

/-- What bounds the running maxima before tile `k`. -/
theorem max_le (H : Scs v15 v33 q n kt ka kb z) (M : ℕ → FVec Ideal S8x256 .f32) (h0 : M 0 = k1_pay17)
    (hs : ∀ k < n, M (k + 1) = k1_pay18 v15 v33 (M k) (kt k) (ka k) (kb k)) (g : Fin 8) (B : EReal) :
    ∀ k ≤ n, ((M k (ix2 g q) : EReal) ≤ B ↔ ∀ t < k, ∀ r < 256, r % 8 = g.val → ((z (t * 256 + r) : ℝ) : EReal) ≤ B)
  | 0, _ => by
    rw [h0]
    have : k1_pay17 (F := Ideal) (ix2 g q) = (⊥ : EReal) := by
      pointwise [k1_pay17]
      exact ofBits_bot
    rw [this]
    exact ⟨fun _ t ht => absurd ht (Nat.not_lt_zero t), fun _ => bot_le⟩
  | k + 1, hk => by
    rw [hs k (by omega), pay18_le (H k (by omega)), max_le H M h0 hs g B k (by omega)]
    constructor
    · intro ⟨h1, h2⟩ t ht r hr hg
      rcases Nat.lt_succ_iff_lt_or_eq.mp ht with h | h
      · exact h1 t h r hr hg
      · rw [h]; exact h2 r hr hg
    · intro h
      exact ⟨fun t ht => h t (by omega), fun r hr hg => h k (by omega) r hr hg⟩

/-- The query's largest score through the cap. -/
theorem top_eq (H : Scs v15 v33 q n kt ka kb z) (M : ℕ → FVec Ideal S8x256 .f32) (h0 : M 0 = k1_pay17)
    (hs : ∀ k < n, M (k + 1) = k1_pay18 v15 v33 (M k) (kt k) (ka k) (kb k)) :
    k1_pay20 k1_pay13 v15 v33 (M n) (kt n) (ka n) (kb n) (ix2 0 q) = ((Real.tanh (zmax z (n * 256 + q.val)) * (50 * (Real.log 2)⁻¹) : ℝ) : EReal) := by
  obtain ⟨X, e, hX⟩ := pay20_eq (H n le_rfl) (M n)
  have hq := q.isLt
  have : X = ((zmax z (n * 256 + q.val) : ℝ) : EReal) := eq_zmax z _ id monotone_id X fun B => by
    rw [hX B]
    constructor
    · intro ⟨h1, h2⟩ k hk
      by_cases hn : k < n * 256
      · have := (max_le H M h0 hs ⟨k % 8, by omega⟩ B n le_rfl).mp (h1 _) (k / 256) (by omega) (k % 256) (by omega) (by show k % 256 % 8 = k % 8; omega)
        rwa [show k / 256 * 256 + k % 256 = k by omega] at this
      · have := h2 (k - n * 256) (by omega)
        rwa [show n * 256 + (k - n * 256) = k by omega] at this
    · intro h
      exact ⟨fun g => (max_le H M h0 hs g B n le_rfl).mpr fun t ht r hr _ => h _ (by nlinarith), fun r hr => h _ (by omega)⟩
  rw [e, this, EReal.coe_mul]; rfl

/-- The scaled weight of a key: 256 times the reference's, zero past the query. -/
def P (z : ℕ → ℝ) (s k : ℕ) : ℝ := prob z s k * 256

/-- The shift of the query's weights. -/
def tp (z : ℕ → ℝ) (s : ℕ) : ℝ := Real.tanh (zmax z s) * (50 * (Real.log 2)⁻¹) + (-8)

theorem wt_P (z : ℕ → ℝ) {s k : ℕ} (h : k ≤ s) : wt (tp z s) (z k) = P z s k := by
  unfold tp P prob
  rw [if_pos h, wt_eq]

variable {v99 : FVec Ideal S1x256 .f32}

theorem pay1_P (H : Scs v15 v33 q n kt ka kb z) (ht : v99 (ix2 0 q) = (tp z (n * 256 + q.val) : EReal)) (k : ℕ) (hk : k < n) (h : Fin 2) (j : Fin 16) (g : Fin 8) :
    k1_pay1 v15 v33 v99 (kt k) (ka k) (kb k) (ix4 h j g q) = (P z (n * 256 + q.val) (k * 256 + (h.val * 128 + j.val * 8 + g.val)) : EReal) := by
  rw [pay1_at (H k hk.le) v99 _ ht, wt_P]
  nlinarith [h.isLt, j.isLt, g.isLt]

theorem pay38_P (H : Scs v15 v33 q n kt ka kb z) (ht : v99 (ix2 0 q) = (tp z (n * 256 + q.val) : EReal)) (h : Fin 2) (j : Fin 16) (g : Fin 8) :
    k1_pay38 v33 v99 (k1_pay35 v15 (kt n)) (k1_pay36 k1_pay13) (k1_pay37 v15 (kt n)) (ka n) (kb n) (ix4 h j g q) = (P z (n * 256 + q.val) (n * 256 + (h.val * 128 + j.val * 8 + g.val)) : EReal) := by
  rw [pay38_at (H n le_rfl) v99 _ ht]
  by_cases hq : h.val * 128 + j.val * 8 + g.val ≤ q.val
  · rw [if_pos hq, wt_P]; omega
  · rw [if_neg hq]
    unfold P prob
    rw [if_neg (by omega), zero_mul]

/-- The weights' running sums before tile `k`. -/
theorem lsum (H : Scs v15 v33 q n kt ka kb z) (ht : v99 (ix2 0 q) = (tp z (n * 256 + q.val) : EReal)) (L : ℕ → FVec Ideal S8x256 .f32) (h0 : L 0 = k1_pay26)
    (hs : ∀ k < n, L (k + 1) = k1_pay30 (L k) (k1_pay2 v15 v33 v99 (kt k) (ka k) (kb k))) (g : Fin 8) :
    ∀ k ≤ n, L k (ix2 g q) = ((∑ t ∈ Finset.range k, ∑ j ∈ Finset.range 32, P z (n * 256 + q.val) (t * 256 + (j * 8 + g.val)) : ℝ) : EReal)
  | 0, _ => by
    rw [h0]
    have : k1_pay26 (F := Ideal) (ix2 g q) = (0 : EReal) := by
      pointwise [k1_pay26]
    rw [this]; simp
  | k + 1, hk => by
    rw [hs k (by omega)]
    have e : k1_pay30 (L k) (k1_pay2 v15 v33 v99 (kt k) (ka k) (kb k)) (ix2 g q) = (L k (ix2 g q) : EReal) + k1_pay2 v15 v33 v99 (kt k) (ka k) (kb k) (ix2 g q) := by
      pointwise [k1_pay30]
    rw [e, lsum H ht L h0 hs g k (by omega), pay2_at (p := fun x => P z (n * 256 + q.val) (k * 256 + x)) (pay1_P H ht k (by omega)), ← EReal.coe_add, Finset.sum_range_succ _ k]

/-- The weights' total. -/
theorem total (H : Scs v15 v33 q n kt ka kb z) (hn : n < 128) (ht : v99 (ix2 0 q) = (tp z (n * 256 + q.val) : EReal)) (L : ℕ → FVec Ideal S8x256 .f32) (h0 : L 0 = k1_pay26)
    (hs : ∀ k < n, L (k + 1) = k1_pay30 (L k) (k1_pay2 v15 v33 v99 (kt k) (ka k) (kb k))) :
    (∑ g : Fin 8, ((L n (ix2 g q) : EReal) + k1_pay39 v33 v99 (k1_pay35 v15 (kt n)) (k1_pay36 k1_pay13) (k1_pay37 v15 (kt n)) (ka n) (kb n) (ix2 g q)))
      = (((∑ b ∈ Finset.range 256, ∑ r ∈ Finset.range 128, prob z (n * 256 + q.val) (b * 128 + r)) * 256 : ℝ) : EReal) := by
  have e : ∀ g : Fin 8, (L n (ix2 g q) : EReal) + k1_pay39 v33 v99 (k1_pay35 v15 (kt n)) (k1_pay36 k1_pay13) (k1_pay37 v15 (kt n)) (ka n) (kb n) (ix2 g q)
      = (((fun g => ∑ t ∈ Finset.range (n + 1), ∑ j ∈ Finset.range 32, P z (n * 256 + q.val) (t * 256 + (j * 8 + g))) g.val : ℝ) : EReal) := fun g => by
    rw [lsum H ht L h0 hs g n le_rfl, pay39_at (p := fun x => P z (n * 256 + q.val) (n * 256 + x)) (pay38_P H ht), ← EReal.coe_add]
    show _ = ((∑ t ∈ Finset.range (n + 1), _ : ℝ) : EReal)
    rw [Finset.sum_range_succ _ n]
  rw [Finset.sum_congr rfl fun g _ => e g, coe_sum 8 (fun g => ∑ t ∈ Finset.range (n + 1), ∑ j ∈ Finset.range 32, P z (n * 256 + q.val) (t * 256 + (j * 8 + g)))]
  congr 1
  have hq := q.isLt
  rw [sum_tiles 128 (prob z (n * 256 + q.val)) 256, ← sum_stop (prob z (n * 256 + q.val)) ((n + 1) * 256) (256 * 128) (by omega) (fun x hx => by unfold prob; rw [if_neg (by omega)]),
    ← sum_tiles 256, Finset.sum_mul, Finset.sum_comm]
  refine Finset.sum_congr rfl fun t _ => ?_
  have e8 : ∑ r ∈ Finset.range 256, prob z (n * 256 + q.val) (t * 256 + r) = _ := (sum_tiles 8 (fun x => prob z (n * 256 + q.val) (t * 256 + x)) 32).symm
  rw [Finset.sum_comm, e8, Finset.sum_mul]
  refine Finset.sum_congr rfl fun j _ => ?_
  rw [Finset.sum_mul]; rfl

/-- The weights' total is positive. -/
theorem total_pos (z : ℕ → ℝ) (s : ℕ) (hs : s < 32768) : 0 < ∑ b ∈ Finset.range 256, ∑ r ∈ Finset.range 128, prob z s (b * 128 + r) := by
  rw [sum_tiles 128 (prob z s) 256]
  refine Finset.sum_pos' (fun x _ => prob_nonneg z s x) ⟨s, Finset.mem_range.mpr (by omega), ?_⟩
  unfold prob; rw [if_pos le_rfl]; exact Real.exp_pos _

variable {sig : RefSig} {κ : Kind} {sp : Space} (v : View sig κ sp S128x256 .f32)

/-- Two rows of a buffer, `l` and `64 + l`, hold these reals at the query's column. -/
def Rows (f : v.ty.Contents (Elt Ideal)) (l : ℕ) (q : Fin 256) (y0 y1 : ℝ) : Prop :=
  ∀ hl : l < 64, v.read (Elt Ideal) f (ix2 (⟨l, by omega⟩ : Fin 128) q) = (y0 : EReal) ∧ v.read (Elt Ideal) f (ix2 (⟨64 + l, by omega⟩ : Fin 128) q) = (y1 : EReal)

variable {v}

theorem readAt_row0 {f : v.ty.Contents (Elt Ideal)} {l : ℕ} {y0 y1 : ℝ} (h : Rows v f l q y0 y1) (hl : l < 64) :
    View.readAt (Elt Ideal) v (Rect.unit (s := S128x256) ![0, 0] S64x256.size inb_S128x256_S64x256_0_0).toLoadRect f (ix2 (⟨l, hl⟩ : Fin 64) q) = (y0 : EReal) := by
  rw [← (h hl).1, View.readAt_apply]
  refine congrArg (v.read (Elt Ideal) f) (funext fun a => Fin.ext ?_)
  match a with
  | ⟨0, _⟩ => show 0 + 1 * l = l; omega
  | ⟨1, _⟩ => show 0 + 1 * q.val = q.val; omega

theorem readAt_row1 {f : v.ty.Contents (Elt Ideal)} {l : ℕ} {y0 y1 : ℝ} (h : Rows v f l q y0 y1) (hl : l < 64) :
    View.readAt (Elt Ideal) v (Rect.unit (s := S128x256) ![64, 0] S64x256.size inb_S128x256_S64x256_64_0).toLoadRect f (ix2 (⟨l, hl⟩ : Fin 64) q) = (y1 : EReal) := by
  rw [← (h hl).2, View.readAt_apply]
  refine congrArg (v.read (Elt Ideal) f) (funext fun a => Fin.ext ?_)
  match a with
  | ⟨0, _⟩ => show 64 + 1 * l = 64 + l; omega
  | ⟨1, _⟩ => show 0 + 1 * q.val = q.val; omega

/-- After both halves are rewritten, the rows hold the new values; -/
theorem rows_write {f : v.ty.Contents (Elt Ideal)} {l : ℕ} {y0 y1 : ℝ} {w0 w1 : Vec Ideal S64x256 .f32} (h0 : ∀ hl : l < 64, w0 (ix2 (⟨l, hl⟩ : Fin 64) q) = (y0 : EReal)) (h1 : ∀ hl : l < 64, w1 (ix2 (⟨l, hl⟩ : Fin 64) q) = (y1 : EReal)) :
    Rows v (v.writes (Elt Ideal) f [⟨Rect.unit (s := S128x256) ![64, 0] S64x256.size inb_S128x256_S64x256_64_0, w1⟩, ⟨Rect.unit (s := S128x256) ![0, 0] S64x256.size inb_S128x256_S64x256_0_0, w0⟩]) l q y0 y1 := fun hl => by
  constructor
  · rw [View.read_writes_cons_rows_of_not_mem v f inb_S128x256_S64x256_64_0 w1 _ _ (o := 64) (W := 64) rfl rfl (.inl hl),
      View.read_writes_cons_rows_of_mem v f inb_S128x256_S64x256_0_0 w0 [] _ (ix2 (⟨l, hl⟩ : Fin 64) q) (o := 0) rfl (by show l = 0 + l; omega) rfl]
    exact h0 hl
  · rw [View.read_writes_cons_rows_of_mem v f inb_S128x256_S64x256_64_0 w1 _ _ (ix2 (⟨l, hl⟩ : Fin 64) q) (o := 64) rfl rfl rfl]
    exact h1 hl

/-- after the lower half alone, that one. -/
theorem rows_write0 {f : v.ty.Contents (Elt Ideal)} {l : ℕ} {y0 y1 y0' : ℝ} (h : Rows v f l q y0 y1) {w0 : Vec Ideal S64x256 .f32} (h0 : ∀ hl : l < 64, w0 (ix2 (⟨l, hl⟩ : Fin 64) q) = (y0' : EReal)) :
    Rows v (v.writes (Elt Ideal) f [⟨Rect.unit (s := S128x256) ![0, 0] S64x256.size inb_S128x256_S64x256_0_0, w0⟩]) l q y0' y1 := fun hl => by
  constructor
  · rw [View.read_writes_cons_rows_of_mem v f inb_S128x256_S64x256_0_0 w0 [] _ (ix2 (⟨l, hl⟩ : Fin 64) q) (o := 0) rfl (by show l = 0 + l; omega) rfl]
    exact h0 hl
  · rw [View.read_writes_cons_rows_of_not_mem v f inb_S128x256_S64x256_0_0 w0 [] _ (o := 0) (W := 64) rfl rfl (.inr (by show 0 + 64 ≤ 64 + l; omega))]
    exact (h hl).2

/-- after zeros everywhere, zeros. -/
theorem rows_zero (f : v.ty.Contents (Elt Ideal)) (l : ℕ) : Rows v (v.writes (Elt Ideal) f [⟨Rect.unit (s := S128x256) ![0, 0] S128x256.size inb_S128x256_S128x256_0_0, k1_pay25 (F := Ideal)⟩]) l q 0 0 := fun hl => by
  have e : ∀ y : Fin 128, k1_pay25 (F := Ideal) (ix2 y q) = ((0 : ℝ) : EReal) := fun y => by
    pointwise [k1_pay25]; rfl
  constructor
  · rw [View.read_writes_cons_rows_of_mem v f inb_S128x256_S128x256_0_0 (k1_pay25 (F := Ideal)) [] _ (ix2 (⟨l, by omega⟩ : Fin 128) q) (o := 0) rfl (by show l = 0 + l; omega) rfl]
    exact e _
  · rw [View.read_writes_cons_rows_of_mem v f inb_S128x256_S128x256_0_0 (k1_pay25 (F := Ideal)) [] _ (ix2 (⟨64 + l, by omega⟩ : Fin 128) q) (o := 0) rfl (by show 64 + l = 0 + (64 + l); omega) rfl]
    exact e _

variable {vt : ℕ → Vec Ideal S1x2x64x256 .fp8e4m3} {l : ℕ} {w u : ℕ → ℝ}

/-- A tile's contribution to one half's weighted value codes. -/
def con (z w u : ℕ → ℝ) (s t b : ℕ) : ℝ := hv (fun x => P z s (t * 256 + x)) (fun x => w (t * 256 + x)) b * u (2 * t + b)

/-- The weighted value codes before tile `k`. -/
theorem osum (H : Scs v15 v33 q n kt ka kb z) (ht : v99 (ix2 0 q) = (tp z (n * 256 + q.val) : EReal)) (hv' : ∀ t ≤ n, Vt (vt t) l (fun x => w (t * 256 + x)))
    (f : ℕ → v.ty.Contents (Elt Ideal)) (h0 : Rows v (f 0) l q 0 0)
    (hs : ∀ k < n, f (k + 1) = v.writes (Elt Ideal) (f k) [⟨Rect.unit (s := S128x256) ![64, 0] S64x256.size inb_S128x256_S64x256_64_0,
        k1_pay29 (k1_pay3 v15 v33 v99 (kt k) (ka k) (kb k)) (vt k) (View.readAt (Elt Ideal) v (Rect.unit (s := S128x256) ![64, 0] S64x256.size inb_S128x256_S64x256_64_0).toLoadRect (f k)) (u (2 * k + 1) : EReal)⟩,
      ⟨Rect.unit (s := S128x256) ![0, 0] S64x256.size inb_S128x256_S64x256_0_0,
        k1_pay28 (k1_pay3 v15 v33 v99 (kt k) (ka k) (kb k)) (vt k) (View.readAt (Elt Ideal) v (Rect.unit (s := S128x256) ![0, 0] S64x256.size inb_S128x256_S64x256_0_0).toLoadRect (f k)) (u (2 * k) : EReal)⟩]) :
    ∀ k ≤ n, Rows v (f k) l q (∑ t ∈ Finset.range k, con z w u (n * 256 + q.val) t 0) (∑ t ∈ Finset.range k, con z w u (n * 256 + q.val) t 1)
  | 0, _ => by simpa using h0
  | k + 1, hk => by
    have ih := osum H ht hv' f h0 hs k (by omega)
    rw [hs k (by omega), Finset.sum_range_succ, Finset.sum_range_succ]
    exact rows_write (fun hl => pay28_at (p := fun x => P z (n * 256 + q.val) (k * 256 + x)) (hv' k (by omega)) hl (pay3_at (p := fun x => P z (n * 256 + q.val) (k * 256 + x)) (pay1_P H ht k (by omega))) _ _ _ (readAt_row0 ih hl))
      (fun hl => pay29_at (p := fun x => P z (n * 256 + q.val) (k * 256 + x)) (hv' k (by omega)) hl (pay3_at (p := fun x => P z (n * 256 + q.val) (k * 256 + x)) (pay1_P H ht k (by omega))) _ _ _ (readAt_row1 ih hl))

/-- The weighted value codes' total over the halves. -/
theorem con_sum (z w u : ℕ → ℝ) (s n : ℕ) (hn : n < 128) (hs : s < (n + 1) * 256) :
    (∑ t ∈ Finset.range (n + 1), con z w u s t 0) + (∑ t ∈ Finset.range (n + 1), con z w u s t 1)
      = ∑ b ∈ Finset.range 256, (∑ r ∈ Finset.range 128, clip (prob z s (b * 128 + r) * 256) * w (b * 128 + r)) * u b := by
  rw [← sum_stop (fun b => (∑ r ∈ Finset.range 128, clip (prob z s (b * 128 + r) * 256) * w (b * 128 + r)) * u b) ((n + 1) * 2) 256 (by omega) (fun b hb => by
      rw [Finset.sum_eq_zero fun r _ => ?_, zero_mul]
      unfold prob
      rw [if_neg (by nlinarith), zero_mul, clip_zero, zero_mul]), ← sum_tiles 2, ← Finset.sum_add_distrib]
  refine Finset.sum_congr rfl fun t _ => ?_
  rw [Finset.sum_range_succ, Finset.sum_range_one]
  unfold con hv P
  congr 1
  · rw [show 2 * t + 0 = t * 2 + 0 by omega]
    congr 1
    refine Finset.sum_congr rfl fun r _ => ?_
    show clip (prob z s (t * 256 + (0 * 128 + r)) * 256) * w (t * 256 + (0 * 128 + r)) = _
    rw [show t * 256 + (0 * 128 + r) = (t * 2 + 0) * 128 + r by omega]
  · rw [show 2 * t + 1 = t * 2 + 1 by omega]
    congr 1
    refine Finset.sum_congr rfl fun r _ => ?_
    show clip (prob z s (t * 256 + (1 * 128 + r)) * 256) * w (t * 256 + (1 * 128 + r)) = _
    rw [show t * 256 + (1 * 128 + r) = (t * 2 + 1) * 128 + r by omega]

/-- One head's row of results: the running values met, the quotient is the attention of the row. -/
theorem head_value (H : Scs v15 v33 q n kt ka kb z) (hn : n < 128) (hv' : ∀ t ≤ n, Vt (vt t) l (fun x => w (t * 256 + x))) (hl : l < 64)
    (M : ℕ → FVec Ideal S8x256 .f32) (m0 : M 0 = k1_pay17) (ms : ∀ k < n, M (k + 1) = k1_pay18 v15 v33 (M k) (kt k) (ka k) (kb k))
    (v79 v81 : FVec Ideal S1x256 .f32) (e79 : v79 = k1_pay20 k1_pay13 v15 v33 (M n) (kt n) (ka n) (kb n)) (e81 : v81 = k1_pay21 k1_pay13 v15 v33 (M n) (kt n) (ka n) (kb n))
    (L : ℕ → FVec Ideal S8x256 .f32) (l0 : L 0 = k1_pay26) (ls : ∀ k < n, L (k + 1) = k1_pay30 (L k) (k1_pay2 v15 v33 (k1_pay24 v79 v81) (kt k) (ka k) (kb k)))
    (f : ℕ → v.ty.Contents (Elt Ideal)) (f0 : Rows v (f 0) l q 0 0)
    (fs : ∀ k < n, f (k + 1) = v.writes (Elt Ideal) (f k) [⟨Rect.unit (s := S128x256) ![64, 0] S64x256.size inb_S128x256_S64x256_64_0,
        k1_pay29 (k1_pay3 v15 v33 (k1_pay24 v79 v81) (kt k) (ka k) (kb k)) (vt k) (View.readAt (Elt Ideal) v (Rect.unit (s := S128x256) ![64, 0] S64x256.size inb_S128x256_S64x256_64_0).toLoadRect (f k)) (u (2 * k + 1) : EReal)⟩,
      ⟨Rect.unit (s := S128x256) ![0, 0] S64x256.size inb_S128x256_S64x256_0_0,
        k1_pay28 (k1_pay3 v15 v33 (k1_pay24 v79 v81) (kt k) (ka k) (kb k)) (vt k) (View.readAt (Elt Ideal) v (Rect.unit (s := S128x256) ![0, 0] S64x256.size inb_S128x256_S64x256_0_0).toLoadRect (f k)) (u (2 * k) : EReal)⟩])
    (v168 : FVec Ideal S128x256 .f32) (e168 : v168 = k1_pay40 v33 (k1_pay24 v79 v81) (k1_pay35 v15 (kt n)) (k1_pay36 k1_pay13) (k1_pay37 v15 (kt n)) (ka n) (kb n) (vt n))
    (f1 f2 : v.ty.Contents (Elt Ideal))
    (e1 : f1 = v.writes (Elt Ideal) (f n) [⟨Rect.unit (s := S128x256) ![0, 0] S64x256.size inb_S128x256_S64x256_0_0,
        k1_pay41 v168 (View.readAt (Elt Ideal) v (Rect.unit (s := S128x256) ![0, 0] S64x256.size inb_S128x256_S64x256_0_0).toLoadRect (f n)) (u (2 * n) : EReal)⟩])
    (e2 : f2 = v.writes (Elt Ideal) (f n) [⟨Rect.unit (s := S128x256) ![64, 0] S64x256.size inb_S128x256_S64x256_64_0,
        k1_pay42 v168 (View.readAt (Elt Ideal) v (Rect.unit (s := S128x256) ![64, 0] S64x256.size inb_S128x256_S64x256_64_0).toLoadRect f1) (u (2 * n + 1) : EReal)⟩,
        ⟨Rect.unit (s := S128x256) ![0, 0] S64x256.size inb_S128x256_S64x256_0_0,
        k1_pay41 v168 (View.readAt (Elt Ideal) v (Rect.unit (s := S128x256) ![0, 0] S64x256.size inb_S128x256_S64x256_0_0).toLoadRect (f n)) (u (2 * n) : EReal)⟩]) :
    k1_pay43 (k1_pay23 v81) (L n) (k1_pay39 v33 (k1_pay24 v79 v81) (k1_pay35 v15 (kt n)) (k1_pay36 k1_pay13) (k1_pay37 v15 (kt n)) (ka n) (kb n))
      (View.readAt (Elt Ideal) v (Rect.unit (s := S128x256) ![0, 0] S64x256.size inb_S128x256_S64x256_0_0).toLoadRect f2)
      (View.readAt (Elt Ideal) v (Rect.unit (s := S128x256) ![64, 0] S64x256.size inb_S128x256_S64x256_64_0).toLoadRect f2) (ix2 (⟨l, hl⟩ : Fin 64) q)
      = (attn z w u (n * 256 + q.val) : EReal) := by
  have ht0 : v79 (ix2 0 q) = ((Real.tanh (zmax z (n * 256 + q.val)) * (50 * (Real.log 2)⁻¹) : ℝ) : EReal) := by rw [e79]; exact top_eq H M m0 ms
  have h81 : v81 (ix2 0 q) = (1 : EReal) := by rw [e81]; exact pay21_at _ (top_eq H M m0 ms)
  have ht : k1_pay24 v79 v81 (ix2 0 q) = (tp z (n * 256 + q.val) : EReal) := pay24_at h81 _ ht0
  have h97 := pay23_at h81
  have R := osum H ht hv' f f0 fs n le_rfl
  have hpc := dcode_at (v33 := v33) (v99 := k1_pay24 v79 v81) (p := fun x => P z (n * 256 + q.val) (n * 256 + x)) (pay38_P H ht)
  rw [pay40_eq] at e168
  have a0 : ∀ hl : l < 64, k1_pay41 v168 (View.readAt (Elt Ideal) v (Rect.unit (s := S128x256) ![0, 0] S64x256.size inb_S128x256_S64x256_0_0).toLoadRect (f n)) (u (2 * n) : EReal) (ix2 (⟨l, hl⟩ : Fin 64) q)
      = ((∑ t ∈ Finset.range (n + 1), con z w u (n * 256 + q.val) t 0 : ℝ) : EReal) := fun hl => by
    rw [e168, pay41_eq, pay28_at (p := fun x => P z (n * 256 + q.val) (n * 256 + x)) (hv' n le_rfl) hl hpc _ _ _ (readAt_row0 R hl), Finset.sum_range_succ _ n]; rfl
  have R1 : Rows v f1 l q (∑ t ∈ Finset.range (n + 1), con z w u (n * 256 + q.val) t 0) (∑ t ∈ Finset.range n, con z w u (n * 256 + q.val) t 1) := by rw [e1]; exact rows_write0 R a0
  have a1 : ∀ hl : l < 64, k1_pay42 v168 (View.readAt (Elt Ideal) v (Rect.unit (s := S128x256) ![64, 0] S64x256.size inb_S128x256_S64x256_64_0).toLoadRect f1) (u (2 * n + 1) : EReal) (ix2 (⟨l, hl⟩ : Fin 64) q)
      = ((∑ t ∈ Finset.range (n + 1), con z w u (n * 256 + q.val) t 1 : ℝ) : EReal) := fun hl => by
    rw [e168, pay42_eq, pay29_at (p := fun x => P z (n * 256 + q.val) (n * 256 + x)) (hv' n le_rfl) hl hpc _ _ _ (readAt_row1 R1 hl), Finset.sum_range_succ _ n]; rfl
  have R2 : Rows v f2 l q (∑ t ∈ Finset.range (n + 1), con z w u (n * 256 + q.val) t 0) (∑ t ∈ Finset.range (n + 1), con z w u (n * 256 + q.val) t 1) := by rw [e2]; exact rows_write a0 a1
  pointwise [k1_pay43]
  rw [readAt_row0 R2 hl, readAt_row1 R2 hl, h97, total H hn ht L l0 ls, ← EReal.coe_add, con_sum z w u _ n hn (by have := q.isLt; omega)]
  have hp := total_pos z (n * 256 + q.val) (by have := q.isLt; omega)
  unfold attn
  generalize (∑ b ∈ Finset.range 256, ∑ r ∈ Finset.range 128, prob z (n * 256 + q.val) (b * 128 + r)) = S at hp ⊢
  rw [← EReal.coe_mul, show S * 256 * (1 / 256) = S by ring]
  unfold Ideal.div
  rw [if_neg (by exact_mod_cast hp.ne'), ← EReal.coe_inv, ← EReal.coe_mul, ← EReal.coe_mul, div_eq_mul_inv (1 / 256) S]

end Head

end Cert.KProof.A
-- ==== Proof.AOff.lean ====
/-
  The attention kernel's loops as recursions: the number of trips, the block rows each access reads, and one trip's
  equation.
-/
module

public import proofs.«01_k».proof.Proof.ALoop
public import Idealize.ShloMosaic.Lib.WholeRead

@[expose] public section

set_option maxRecDepth 16384

noncomputable section

namespace Cert.KProof.A

open Cert.KernelIdeal Cert.KernelIdeal.Gen Idealize.ShloMosaic Idealize.ShloMosaic.TcCoe Idealize.SL.Sem

/-! ## Trips and offsets -/

theorem trips1 (i : grid1.Coords) : (k1_t1_loop i).trips = (i 1).val := by
  have h : ∀ x : Fin 128, (fun arg1 : BitVec 32 => Scf.trips (0#32) (Scalar.addi (0#32) (Scalar.muli (Scalar.divsi (Scalar.subi arg1 0#32) 1#32) 1#32)) 1#32) (BitVec.ofNat 32 x.val) = x.val := by decide +kernel
  exact h (i 1)

theorem trips2 (i : grid1.Coords) : (k1_t2_loop i).trips = 0 := by
  have h : ∀ x : Fin 128, (fun arg1 : BitVec 32 => Scf.trips (Scalar.addi (0#32) (Scalar.muli (Scalar.divsi (Scalar.subi arg1 0#32) 1#32) 1#32)) (Scalar.addi 0#32 (Scalar.subi arg1 0#32)) 1#32) (BitVec.ofNat 32 x.val) = 0 := by decide +kernel
  exact h (i 1)

theorem trips3 (i : grid1.Coords) : (k1_t3_loop i).trips = (i 1).val := trips1 i
theorem trips4 (i : grid1.Coords) : (k1_t4_loop i).trips = 0 := trips2 i
theorem trips5 (i : grid1.Coords) : (k1_t5_loop i).trips = (i 1).val := trips1 i
theorem trips6 (i : grid1.Coords) : (k1_t6_loop i).trips = 0 := trips2 i
theorem trips7 (i : grid1.Coords) : (k1_t7_loop i).trips = (i 1).val := trips1 i
theorem trips8 (i : grid1.Coords) : (k1_t8_loop i).trips = 0 := trips2 i

theorem head0 : ∀ x : Fin 16, (Scalar.indexCast (Scalar.addi (Scalar.muli (BitVec.ofNat 32 x.val) 2#32) 0#32)).toNat = 2 * x.val := by decide +kernel
theorem head1 : ∀ x : Fin 16, (Scalar.indexCast (Scalar.addi (Scalar.muli (BitVec.ofNat 32 x.val) 2#32) 1#32)).toNat = 2 * x.val + 1 := by decide +kernel
theorem qblk0 : ∀ x : Fin 128, (Scalar.indexCast (Scalar.muli 2#32 (BitVec.ofNat 32 x.val))).toNat = 2 * x.val := by decide +kernel
theorem qblk1 : ∀ x : Fin 128, (Scalar.indexCast (Scalar.addi (Scalar.muli 2#32 (BitVec.ofNat 32 x.val)) 1#32)).toNat = 2 * x.val + 1 := by decide +kernel
theorem kblk0 : ∀ x : Fin 128, (Scalar.indexCast (Scalar.addi (Scalar.muli (BitVec.ofNat 32 x.val) 2#32) 0#32)).toNat = 2 * x.val := by decide +kernel
theorem kblk1 : ∀ x : Fin 128, (Scalar.indexCast (Scalar.addi (Scalar.muli (BitVec.ofNat 32 x.val) 2#32) 1#32)).toNat = 2 * x.val + 1 := by decide +kernel
theorem rows : ∀ x : Fin 128, (Scalar.indexCast (Scalar.muli (BitVec.ofNat 32 x.val) 256#32)).toNat = x.val * 256 := by decide +kernel
theorem tblk0 : ∀ x : Fin 128, (Scalar.indexCast (Scalar.addi (Scalar.muli (Scf.iv 0#32 1#32 x.val) 2#32) 0#32)).toNat = 2 * x.val := by decide +kernel
theorem tblk1 : ∀ x : Fin 128, (Scalar.indexCast (Scalar.addi (Scalar.muli (Scf.iv 0#32 1#32 x.val) 2#32) 1#32)).toNat = 2 * x.val + 1 := by decide +kernel
theorem trows : ∀ x : Fin 128, (Scalar.indexCast (Scalar.muli (Scf.iv 0#32 1#32 x.val) 256#32)).toNat = x.val * 256 := by decide +kernel

/-! ## Reads -/

/-- One scale. -/
def sc (x : Vec Ideal S32x256 .f32) (h n : ℕ) : EReal := x (ix2 (⟨h % 32, Nat.mod_lt _ (by decide)⟩ : Fin 32) (⟨n % 256, Nat.mod_lt _ (by decide)⟩ : Fin 256))

/-- A tile of 256 keys. -/
def ktl (x : Vec Ideal S32768x128 .fp8e4m3) (t : ℕ) : Vec Ideal S256x128 .fp8e4m3 := fun y =>
  x (ix2 (⟨(t * 256 + (y 0).val) % 32768, Nat.mod_lt _ (by decide)⟩ : Fin 32768) (⟨(y 1).val, (y 1).isLt⟩ : Fin 128))

/-- The value codes of a tile of 256 keys, of the pair's first or second head. -/
def vtl (x : Vec Ideal S2x2x64x32768 .fp8e4m3) (hh : Fin 2) (t : ℕ) : Vec Ideal S1x2x64x256 .fp8e4m3 := fun y =>
  x (ix4 hh (⟨(y 1).val, (y 1).isLt⟩ : Fin 2) (⟨(y 2).val, (y 2).isLt⟩ : Fin 64) (⟨(t * 256 + (y 3).val) % 32768, Nat.mod_lt _ (by decide)⟩ : Fin 32768))

theorem read_sc (arg : Memref sig .tc .smem S32x256 .f32) (harg : arg.IsWhole) (x : Vec Ideal S32x256 .f32) (off : Fin 2 → ℕ) (inb) (hb) (h n : ℕ) (e : off = ![h, n]) :
    View.readAt (Elt Ideal) arg.view (Rect.unit (s := S32x256) off S1x1.size inb).toLoadRect (harg.unread x) (Shape.Idx.first hb) = sc x h n := by
  subst e
  have h0 : h + 1 ≤ 32 := inb 0
  have h1 : n + 1 ≤ 256 := inb 1
  rw [Memref.IsWhole.readAt_unread]
  refine congrArg x (funext fun a => Fin.ext ?_)
  match a with
  | ⟨0, _⟩ => show h + 1 * 0 = h % 32; omega
  | ⟨1, _⟩ => show n + 1 * 0 = n % 256; omega

theorem read_kt (arg : Memref sig .tc .vmem S32768x128 .fp8e4m3) (harg : arg.IsWhole) (x : Vec Ideal S32768x128 .fp8e4m3) (off : Fin 2 → ℕ) (inb) (t : ℕ) (e : off = ![t * 256, 0]) :
    View.readAt (Elt Ideal) arg.view (Rect.unit (s := S32768x128) off S256x128.size inb).toLoadRect (harg.unread x) = ktl x t := by
  subst e
  have h0 : t * 256 + 256 ≤ 32768 := inb 0
  funext y
  rw [Memref.IsWhole.readAt_unread]
  refine congrArg x (funext fun a => Fin.ext ?_)
  have hy : (y 0).val < 256 := (y 0).isLt
  match a with
  | ⟨0, _⟩ => show t * 256 + 1 * (y 0).val = (t * 256 + (y 0).val) % 32768; omega
  | ⟨1, _⟩ => show 0 + 1 * (y 1).val = (y 1).val; omega

theorem read_vt (arg : Memref sig .tc .vmem S2x2x64x32768 .fp8e4m3) (harg : arg.IsWhole) (x : Vec Ideal S2x2x64x32768 .fp8e4m3) (off : Fin 4 → ℕ) (inb) (hh : Fin 2) (t : ℕ) (e : off = ![hh.val, 0, 0, t * 256]) :
    View.readAt (Elt Ideal) arg.view (Rect.unit (s := S2x2x64x32768) off S1x2x64x256.size inb).toLoadRect (harg.unread x) = vtl x hh t := by
  subst e
  have h3 : t * 256 + 256 ≤ 32768 := inb 3
  funext y
  rw [Memref.IsWhole.readAt_unread]
  refine congrArg x (funext fun a => Fin.ext ?_)
  have hy : (y 3).val < 256 := (y 3).isLt
  have h0 : (y 0).val < 1 := (y 0).isLt
  match a with
  | ⟨0, _⟩ => show hh.val + 1 * (y 0).val = hh.val; omega
  | ⟨1, _⟩ => show 0 + 1 * (y 1).val = (y 1).val; omega
  | ⟨2, _⟩ => show 0 + 1 * (y 2).val = (y 2).val; omega
  | ⟨3, _⟩ => show t * 256 + 1 * (y 3).val = (t * 256 + (y 3).val) % 32768; omega

theorem vec2 {a b c d : ℕ} (h : a = c) (h' : b = d) : (![a, b] : Fin 2 → ℕ) = ![c, d] := by rw [h, h']
theorem vec4 {b d : ℕ} (x y z : ℕ) (h' : b = d) : (![x, y, z, b] : Fin 4 → ℕ) = ![x, y, z, d] := by rw [h']

/-! ## One trip -/

section Trips

variable (𝒱 : Variants) (c : Dev nD) (bd : Option 𝒱.V) (i : grid1.Coords) (arg2 : Memref sig .tc .smem S32x256 .f32) (harg2 : arg2.IsWhole) (arg3 : Memref sig .tc .smem S32x256 .f32) (harg3 : arg3.IsWhole) (arg4 : Memref sig .tc .smem S32x256 .f32) (harg4 : arg4.IsWhole) (arg5 : Memref sig .tc .vmem S32768x128 .fp8e4m3) (harg5 : arg5.IsWhole) (arg6 : Memref sig .tc .vmem S128x256 .fp8e4m3) (harg6 : arg6.IsWhole) (arg7 : Memref sig .tc .vmem S2x2x64x32768 .fp8e4m3) (harg7 : arg7.IsWhole) (arg8 : Memref sig .tc .vmem S256x128 .bf16) (harg8 : arg8.IsWhole) (arg9 : Memref sig .tc .vmem S128x256 .fp8e4m3) (harg9 : arg9.IsWhole) (arg10 : Memref sig .tc .vmem S128x256 .f32) (harg10 : arg10.IsWhole) (arg11 : Memref sig .tc .vmem S128x256 .f32) (harg11 : arg11.IsWhole)
variable (x1 x2 : Vec Ideal S32x256 .f32) (x3 : Vec Ideal S32768x128 .fp8e4m3) (x5 : Vec Ideal S2x2x64x32768 .fp8e4m3)

theorem t1_succ (arg1 : BitVec 32) (v3 : IVec S256x256 1) (v5 : BitVec 32) (v15 : Vec Ideal S128x256 .fp8e4m3) (v33 v34 : FVec Ideal S8x256 .f32) (c0 v35 : BitVec 32) (init : FVec Ideal S8x256 .f32) (k : ℕ) (hk : k < (i 1).val) :
    st_k1_t1 (F := Ideal) 𝒱 c bd i arg2 harg2 arg3 harg3 arg4 harg4 arg5 harg5 arg6 harg6 arg7 harg7 arg8 harg8 arg9 harg9 arg10 harg10 arg11 harg11 arg1 v3 v5 v15 v33 v34 c0 v35 (harg3.unread x1) (harg5.unread x3) init (k + 1)
      = k1_pay18 v15 v33 (st_k1_t1 (F := Ideal) 𝒱 c bd i arg2 harg2 arg3 harg3 arg4 harg4 arg5 harg5 arg6 harg6 arg7 harg7 arg8 harg8 arg9 harg9 arg10 harg10 arg11 harg11 arg1 v3 v5 v15 v33 v34 c0 v35 (harg3.unread x1) (harg5.unread x3) init k)
          (ktl x3 k) (sc x1 (2 * (i 0).val) (2 * k)) (sc x1 (2 * (i 0).val) (2 * k + 1)) := by
  have hk' : k < (k1_t1_loop i).trips := by rw [trips1]; exact hk
  have hk8 : k < 128 := lt_trans hk (i 1).isLt
  rw [show k + 1 = (⟨k, hk'⟩ : Fin (k1_t1_loop i).trips).val + 1 from rfl, st_k1_t1_succ]
  unfold tripR_k1_t1 trip_k1_t1; dsimp only
  unfold trip_k1_t1.sl.r trip_k1_t1.sl.r_1
  exact congr (congr (congrArg _ (read_kt arg5 harg5 x3 _ _ k (vec2 (trows ⟨k, hk8⟩) rfl)))
    (read_sc arg3 harg3 x1 _ _ _ _ _ (vec2 (head0 (i 0)) (tblk0 ⟨k, hk8⟩)))) (read_sc arg3 harg3 x1 _ _ _ _ _ (vec2 (head0 (i 0)) (tblk1 ⟨k, hk8⟩)))

theorem t5_succ (arg0 arg1 : BitVec 32) (v0 : IVec S8x256 32) (c2 : BitVec 32) (v219 : Vec Ideal S128x256 .fp8e4m3) (v225 v230 : Ideal .f32) (init : FVec Ideal S8x256 .f32) (k : ℕ) (hk : k < (i 1).val) :
    st_k1_t5 (F := Ideal) 𝒱 c bd i arg2 harg2 arg3 harg3 arg4 harg4 arg5 harg5 arg6 harg6 arg7 harg7 arg8 harg8 arg9 harg9 arg10 harg10 arg11 harg11 arg0 arg1 v0 c2 v219 v225 v230 (harg3.unread x1) (harg5.unread x3) init (k + 1)
      = k1_pay48 v0 v219 v225 v230 (st_k1_t5 (F := Ideal) 𝒱 c bd i arg2 harg2 arg3 harg3 arg4 harg4 arg5 harg5 arg6 harg6 arg7 harg7 arg8 harg8 arg9 harg9 arg10 harg10 arg11 harg11 arg0 arg1 v0 c2 v219 v225 v230 (harg3.unread x1) (harg5.unread x3) init k)
          (ktl x3 k) (sc x1 (2 * (i 0).val + 1) (2 * k)) (sc x1 (2 * (i 0).val + 1) (2 * k + 1)) := by
  have hk' : k < (k1_t5_loop i).trips := by rw [trips5]; exact hk
  have hk8 : k < 128 := lt_trans hk (i 1).isLt
  rw [show k + 1 = (⟨k, hk'⟩ : Fin (k1_t5_loop i).trips).val + 1 from rfl, st_k1_t5_succ]
  unfold tripR_k1_t5 trip_k1_t5; dsimp only
  unfold trip_k1_t5.sl.r trip_k1_t5.sl.r_1
  exact congr (congr (congrArg _ (read_kt arg5 harg5 x3 _ _ k (vec2 (trows ⟨k, hk8⟩) rfl)))
    (read_sc arg3 harg3 x1 _ _ _ _ _ (vec2 (head1 (i 0)) (tblk0 ⟨k, hk8⟩)))) (read_sc arg3 harg3 x1 _ _ _ _ _ (vec2 (head1 (i 0)) (tblk1 ⟨k, hk8⟩)))

/-- The sums and the weighted value codes after one more tile. -/
theorem t3_succ (arg1 : BitVec 32) (v3 : IVec S256x256 1) (v5 : BitVec 32) (v15 : Vec Ideal S128x256 .fp8e4m3) (v33 : FVec Ideal S8x256 .f32) (v79 v81 : FVec Ideal S1x256 .f32) (G : BufTy.Contents (Elt Ideal) arg10.view.ty) (init : FVec Ideal S8x256 .f32) (k : ℕ) (hk : k < (i 1).val) :
    st_k1_t3 (F := Ideal) 𝒱 c bd i arg2 harg2 arg3 harg3 arg4 harg4 arg5 harg5 arg6 harg6 arg7 harg7 arg8 harg8 arg9 harg9 arg10 harg10 arg11 harg11 arg1 v3 v5 v15 v33 v79 v81 (harg3.unread x1) (harg4.unread x2) (harg5.unread x3) (harg7.unread x5) G init (k + 1)
      = (fun S : FVec Ideal S8x256 .f32 × List _ =>
          (k1_pay30 S.1 (k1_pay2 v15 v33 (k1_pay24 v79 v81) (ktl x3 k) (sc x1 (2 * (i 0).val) (2 * k)) (sc x1 (2 * (i 0).val) (2 * k + 1))),
            [⟨Rect.unit (s := S128x256) ![64, 0] S64x256.size inb_S128x256_S64x256_64_0,
              k1_pay29 (k1_pay3 v15 v33 (k1_pay24 v79 v81) (ktl x3 k) (sc x1 (2 * (i 0).val) (2 * k)) (sc x1 (2 * (i 0).val) (2 * k + 1))) (vtl x5 0 k) (View.readAt (Elt Ideal) arg10.view (Rect.unit (s := S128x256) ![64, 0] S64x256.size inb_S128x256_S64x256_64_0).toLoadRect (arg10.view.writes (Elt Ideal) G S.2)) (sc x2 (2 * (i 0).val) (2 * k + 1))⟩,
             ⟨Rect.unit (s := S128x256) ![0, 0] S64x256.size inb_S128x256_S64x256_0_0,
              k1_pay28 (k1_pay3 v15 v33 (k1_pay24 v79 v81) (ktl x3 k) (sc x1 (2 * (i 0).val) (2 * k)) (sc x1 (2 * (i 0).val) (2 * k + 1))) (vtl x5 0 k) (View.readAt (Elt Ideal) arg10.view (Rect.unit (s := S128x256) ![0, 0] S64x256.size inb_S128x256_S64x256_0_0).toLoadRect (arg10.view.writes (Elt Ideal) G S.2)) (sc x2 (2 * (i 0).val) (2 * k))⟩] ++ S.2))
        (st_k1_t3 (F := Ideal) 𝒱 c bd i arg2 harg2 arg3 harg3 arg4 harg4 arg5 harg5 arg6 harg6 arg7 harg7 arg8 harg8 arg9 harg9 arg10 harg10 arg11 harg11 arg1 v3 v5 v15 v33 v79 v81 (harg3.unread x1) (harg4.unread x2) (harg5.unread x3) (harg7.unread x5) G init k) := by
  have hk' : k < (k1_t3_loop i).trips := by rw [trips3]; exact hk
  have hk8 : k < 128 := lt_trans hk (i 1).isLt
  rw [show k + 1 = (⟨k, hk'⟩ : Fin (k1_t3_loop i).trips).val + 1 from rfl, st_k1_t3_succ]
  have e0 := fun hb => read_sc arg3 harg3 x1 (k1_off10 i ⟨k, hk'⟩ 0#32) (k1_off10_inb i ⟨k, hk'⟩ 0) hb _ _ (vec2 (head0 (i 0)) (tblk0 ⟨k, hk8⟩))
  have e1 := fun hb => read_sc arg3 harg3 x1 (k1_off10 i ⟨k, hk'⟩ 1#32) (k1_off10_inb i ⟨k, hk'⟩ 1) hb _ _ (vec2 (head0 (i 0)) (tblk1 ⟨k, hk8⟩))
  have e2 := fun hb => read_sc arg4 harg4 x2 (k1_off10 i ⟨k, hk'⟩ 0#32) (k1_off10_inb i ⟨k, hk'⟩ 0) hb _ _ (vec2 (head0 (i 0)) (tblk0 ⟨k, hk8⟩))
  have e3 := fun hb => read_sc arg4 harg4 x2 (k1_off10 i ⟨k, hk'⟩ 1#32) (k1_off10_inb i ⟨k, hk'⟩ 1) hb _ _ (vec2 (head0 (i 0)) (tblk1 ⟨k, hk8⟩))
  have e4 := read_kt arg5 harg5 x3 (k1_off9 i ⟨k, hk'⟩) (k1_off9_inb i ⟨k, hk'⟩) k (vec2 (trows ⟨k, hk8⟩) rfl)
  have e5 := read_vt arg7 harg7 x5 (k1_off11 i ⟨k, hk'⟩) (k1_off11_inb i ⟨k, hk'⟩) 0 k (vec4 _ _ _ (trows ⟨k, hk8⟩))
  generalize st_k1_t3 (F := Ideal) 𝒱 c bd i arg2 harg2 arg3 harg3 arg4 harg4 arg5 harg5 arg6 harg6 arg7 harg7 arg8 harg8 arg9 harg9 arg10 harg10 arg11 harg11 arg1 v3 v5 v15 v33 v79 v81 (harg3.unread x1) (harg4.unread x2) (harg5.unread x3) (harg7.unread x5) G init k = S
  unfold tripL_k1_t3 tripR_k1_t3 trip_k1_t3; dsimp only
  simp only [trip_k1_t3.sl.r, trip_k1_t3.sl.r_1, trip_k1_t3.sl.r_2, trip_k1_t3.sl.r_3, trip_k1_t3.sl.r_4, trip_k1_t3.sl.r_5, trip_k1_t3.sl.v483]
  rw [e0, e1, e2, e3, e4, e5]

/-- The sums and the weighted value codes after one more tile. -/
theorem t7_succ (arg1 : BitVec 32) (v3 : IVec S256x256 1) (v209 : BitVec 32) (v219 : Vec Ideal S128x256 .fp8e4m3) (v237 : FVec Ideal S8x256 .f32) (v283 v285 v288 v290 : FVec Ideal S1x256 .f32) (G : BufTy.Contents (Elt Ideal) arg10.view.ty) (init : FVec Ideal S8x256 .f32) (k : ℕ) (hk : k < (i 1).val) :
    st_k1_t7 (F := Ideal) 𝒱 c bd i arg2 harg2 arg3 harg3 arg4 harg4 arg5 harg5 arg6 harg6 arg7 harg7 arg8 harg8 arg9 harg9 arg10 harg10 arg11 harg11 arg1 v3 v209 v219 v237 v283 v285 v288 v290 (harg3.unread x1) (harg4.unread x2) (harg5.unread x3) (harg7.unread x5) G init (k + 1)
      = (fun S : FVec Ideal S8x256 .f32 × List _ =>
          (k1_pay62 S.1 (k1_pay8 v219 v237 (k1_pay56 v283 v285 v288 v290) (ktl x3 k) (sc x1 (2 * (i 0).val + 1) (2 * k)) (sc x1 (2 * (i 0).val + 1) (2 * k + 1))),
            [⟨Rect.unit (s := S128x256) ![64, 0] S64x256.size inb_S128x256_S64x256_64_0,
              k1_pay61 (k1_pay9 v219 v237 (k1_pay56 v283 v285 v288 v290) (ktl x3 k) (sc x1 (2 * (i 0).val + 1) (2 * k)) (sc x1 (2 * (i 0).val + 1) (2 * k + 1))) (vtl x5 1 k) (View.readAt (Elt Ideal) arg10.view (Rect.unit (s := S128x256) ![64, 0] S64x256.size inb_S128x256_S64x256_64_0).toLoadRect (arg10.view.writes (Elt Ideal) G S.2)) (sc x2 (2 * (i 0).val + 1) (2 * k + 1))⟩,
             ⟨Rect.unit (s := S128x256) ![0, 0] S64x256.size inb_S128x256_S64x256_0_0,
              k1_pay60 (k1_pay9 v219 v237 (k1_pay56 v283 v285 v288 v290) (ktl x3 k) (sc x1 (2 * (i 0).val + 1) (2 * k)) (sc x1 (2 * (i 0).val + 1) (2 * k + 1))) (vtl x5 1 k) (View.readAt (Elt Ideal) arg10.view (Rect.unit (s := S128x256) ![0, 0] S64x256.size inb_S128x256_S64x256_0_0).toLoadRect (arg10.view.writes (Elt Ideal) G S.2)) (sc x2 (2 * (i 0).val + 1) (2 * k))⟩] ++ S.2))
        (st_k1_t7 (F := Ideal) 𝒱 c bd i arg2 harg2 arg3 harg3 arg4 harg4 arg5 harg5 arg6 harg6 arg7 harg7 arg8 harg8 arg9 harg9 arg10 harg10 arg11 harg11 arg1 v3 v209 v219 v237 v283 v285 v288 v290 (harg3.unread x1) (harg4.unread x2) (harg5.unread x3) (harg7.unread x5) G init k) := by
  have hk' : k < (k1_t7_loop i).trips := by rw [trips7]; exact hk
  have hk8 : k < 128 := lt_trans hk (i 1).isLt
  rw [show k + 1 = (⟨k, hk'⟩ : Fin (k1_t7_loop i).trips).val + 1 from rfl, st_k1_t7_succ]
  have e0 := fun hb => read_sc arg3 harg3 x1 (k1_off21 i ⟨k, hk'⟩ 0#32) (k1_off21_inb i ⟨k, hk'⟩ 0) hb _ _ (vec2 (head1 (i 0)) (tblk0 ⟨k, hk8⟩))
  have e1 := fun hb => read_sc arg3 harg3 x1 (k1_off21 i ⟨k, hk'⟩ 1#32) (k1_off21_inb i ⟨k, hk'⟩ 1) hb _ _ (vec2 (head1 (i 0)) (tblk1 ⟨k, hk8⟩))
  have e2 := fun hb => read_sc arg4 harg4 x2 (k1_off21 i ⟨k, hk'⟩ 0#32) (k1_off21_inb i ⟨k, hk'⟩ 0) hb _ _ (vec2 (head1 (i 0)) (tblk0 ⟨k, hk8⟩))
  have e3 := fun hb => read_sc arg4 harg4 x2 (k1_off21 i ⟨k, hk'⟩ 1#32) (k1_off21_inb i ⟨k, hk'⟩ 1) hb _ _ (vec2 (head1 (i 0)) (tblk1 ⟨k, hk8⟩))
  have e4 := read_kt arg5 harg5 x3 (k1_off20 i ⟨k, hk'⟩) (k1_off20_inb i ⟨k, hk'⟩) k (vec2 (trows ⟨k, hk8⟩) rfl)
  have e5 := read_vt arg7 harg7 x5 (k1_off22 i ⟨k, hk'⟩) (k1_off22_inb i ⟨k, hk'⟩) 1 k (vec4 _ _ _ (trows ⟨k, hk8⟩))
  generalize st_k1_t7 (F := Ideal) 𝒱 c bd i arg2 harg2 arg3 harg3 arg4 harg4 arg5 harg5 arg6 harg6 arg7 harg7 arg8 harg8 arg9 harg9 arg10 harg10 arg11 harg11 arg1 v3 v209 v219 v237 v283 v285 v288 v290 (harg3.unread x1) (harg4.unread x2) (harg5.unread x3) (harg7.unread x5) G init k = S
  unfold tripL_k1_t7 tripR_k1_t7 trip_k1_t7; dsimp only
  simp only [trip_k1_t7.sl.r, trip_k1_t7.sl.r_1, trip_k1_t7.sl.r_2, trip_k1_t7.sl.r_3, trip_k1_t7.sl.r_4, trip_k1_t7.sl.r_5, trip_k1_t7.sl.v483]
  rw [e0, e1, e2, e3, e4, e5]

end Trips

end Cert.KProof.A
-- ==== Proof.ABody.lean ====
/-
  The attention kernel's body at one grid point: what it leaves in the output block, for the pair's two heads.
-/
module

public import proofs.«01_k».proof.Proof.AOff

@[expose] public section

set_option maxRecDepth 16384

noncomputable section

namespace Cert.KProof.A

open Cert.KernelIdeal Cert.KernelIdeal.Gen Idealize.ShloMosaic Idealize.ShloMosaic.TcCoe Idealize.SL.Sem

section Body

variable (c : Dev nD) (i : grid1.Coords) (arg2 : Memref sig .tc .smem S32x256 .f32) (harg2 : arg2.IsWhole) (arg3 : Memref sig .tc .smem S32x256 .f32) (harg3 : arg3.IsWhole) (arg4 : Memref sig .tc .smem S32x256 .f32) (harg4 : arg4.IsWhole) (arg5 : Memref sig .tc .vmem S32768x128 .fp8e4m3) (harg5 : arg5.IsWhole) (arg6 : Memref sig .tc .vmem S128x256 .fp8e4m3) (harg6 : arg6.IsWhole) (arg7 : Memref sig .tc .vmem S2x2x64x32768 .fp8e4m3) (harg7 : arg7.IsWhole) (arg8 : Memref sig .tc .vmem S256x128 .bf16) (harg8 : arg8.IsWhole) (arg9 : Memref sig .tc .vmem S128x256 .fp8e4m3) (harg9 : arg9.IsWhole) (arg10 : Memref sig .tc .vmem S128x256 .f32) (harg10 : arg10.IsWhole) (arg11 : Memref sig .tc .vmem S128x256 .f32) (harg11 : arg11.IsWhole)
variable (x0 x1 x2 : Vec Ideal S32x256 .f32) (x3 : Vec Ideal S32768x128 .fp8e4m3) (x4 : Vec Ideal S128x256 .fp8e4m3) (x5 : Vec Ideal S2x2x64x32768 .fp8e4m3)

/-! ## Head 0 of the pair -/

/-- The running maxima of head 0. -/
def h0M : ℕ → FVec Ideal S8x256 .f32 := st_k1_t1 (F := Ideal) Variants.none c none i arg2 harg2 arg3 harg3 arg4 harg4 arg5 harg5 arg6 harg6 arg7 harg7 arg8 harg8 arg9 harg9 arg10 harg10 arg11 harg11 (BitVec.ofNat 32 (i 1).val) k1_pay13 (kernelRun1_A.sl.v5 i) (kernelRun1_A.sl.v15 (F := Ideal) c arg6 harg6 arg9 x4) (kernelRun1_A.sl.r_2 (F := Ideal) c i arg2 harg2 x0) k1_pay17 0#32 (kernelRun1_A.sl.v35 i) (harg3.unread x1) (harg5.unread x3) k1_pay17

/-- The sums and pieces of head 0. -/
def h0S : ℕ → FVec Ideal S8x256 .f32 × List (View.Piece (Elt Ideal) S128x256 .f32) := st_k1_t3 (F := Ideal) Variants.none c none i arg2 harg2 arg3 harg3 arg4 harg4 arg5 harg5 arg6 harg6 arg7 harg7 arg8 harg8 arg9 harg9 arg10 harg10 arg11 harg11 (BitVec.ofNat 32 (i 1).val) k1_pay13 (kernelRun1_A.sl.v5 i) (kernelRun1_A.sl.v15 (F := Ideal) c arg6 harg6 arg9 x4) (kernelRun1_A.sl.r_2 (F := Ideal) c i arg2 harg2 x0) (kernelRun1_A.sl.r_5 (F := Ideal) c i arg2 harg2 arg3 harg3 arg4 harg4 arg5 harg5 arg6 harg6 arg7 harg7 arg8 harg8 arg9 harg9 arg10 harg10 arg11 harg11 x0 x1 x3 x4) (kernelRun1_A.sl.r_6 (F := Ideal) c i arg2 harg2 arg3 harg3 arg4 harg4 arg5 harg5 arg6 harg6 arg7 harg7 arg8 harg8 arg9 harg9 arg10 harg10 arg11 harg11 x0 x1 x3 x4) (harg3.unread x1) (harg4.unread x2) (harg5.unread x3) (harg7.unread x5) (arg10.view.writes (Elt Ideal) arg10.view.junk (kernelRun1_A.sl.HS1_1 (F := Ideal))) k1_pay26

/-- The accumulator's contents of head 0. -/
def h0f (k : ℕ) : BufTy.Contents (Elt Ideal) arg10.view.ty := arg10.view.writes (Elt Ideal) (arg10.view.writes (Elt Ideal) arg10.view.junk (kernelRun1_A.sl.HS1_1 (F := Ideal))) (h0S c i arg2 harg2 arg3 harg3 arg4 harg4 arg5 harg5 arg6 harg6 arg7 harg7 arg8 harg8 arg9 harg9 arg10 harg10 arg11 harg11 x0 x1 x2 x3 x4 x5 k).2

theorem h0_r : (kernelRun1_A.sl.r (F := Ideal) c i arg2 harg2 x0) = sc x0 (2 * (i 0).val) (2 * (i 1).val) := read_sc arg2 harg2 x0 _ _ _ _ _ (vec2 (head0 (i 0)) (qblk0 (i 1)))

theorem h0_r_1 : (kernelRun1_A.sl.r_1 (F := Ideal) c i arg2 harg2 x0) = sc x0 (2 * (i 0).val) (2 * (i 1).val + 1) := read_sc arg2 harg2 x0 _ _ _ _ _ (vec2 (head0 (i 0)) (qblk1 (i 1)))

theorem h0_r_3 : (kernelRun1_A.sl.r_3 (F := Ideal) i arg3 harg3 x1) = sc x1 (2 * (i 0).val) (2 * (i 1).val) := read_sc arg3 harg3 x1 _ _ _ _ _ (vec2 (head0 (i 0)) (kblk0 (i 1)))

theorem h0_r_4 : (kernelRun1_A.sl.r_4 (F := Ideal) i arg3 harg3 x1) = sc x1 (2 * (i 0).val) (2 * (i 1).val + 1) := read_sc arg3 harg3 x1 _ _ _ _ _ (vec2 (head0 (i 0)) (kblk1 (i 1)))

theorem h0_r_16 : (kernelRun1_A.sl.r_16 (F := Ideal) i arg4 harg4 x2) = sc x2 (2 * (i 0).val) (2 * (i 1).val) := read_sc arg4 harg4 x2 _ _ _ _ _ (vec2 (head0 (i 0)) (kblk0 (i 1)))

theorem h0_r_17 : (kernelRun1_A.sl.r_17 (F := Ideal) i arg4 harg4 x2) = sc x2 (2 * (i 0).val) (2 * (i 1).val + 1) := read_sc arg4 harg4 x2 _ _ _ _ _ (vec2 (head0 (i 0)) (kblk1 (i 1)))

theorem h0_r_2 : (kernelRun1_A.sl.r_2 (F := Ideal) c i arg2 harg2 x0) = k1_pay16 (sc x0 (2 * (i 0).val) (2 * (i 1).val)) (sc x0 (2 * (i 0).val) (2 * (i 1).val + 1)) := congr (congrArg k1_pay16 (h0_r c i arg2 harg2 x0)) (h0_r_1 c i arg2 harg2 x0)

theorem h0M_succ (k : ℕ) (hk : k < (i 1).val) : h0M c i arg2 harg2 arg3 harg3 arg4 harg4 arg5 harg5 arg6 harg6 arg7 harg7 arg8 harg8 arg9 harg9 arg10 harg10 arg11 harg11 x0 x1 x3 x4 (k + 1) = k1_pay18 (kernelRun1_A.sl.v15 (F := Ideal) c arg6 harg6 arg9 x4) (kernelRun1_A.sl.r_2 (F := Ideal) c i arg2 harg2 x0) (h0M c i arg2 harg2 arg3 harg3 arg4 harg4 arg5 harg5 arg6 harg6 arg7 harg7 arg8 harg8 arg9 harg9 arg10 harg10 arg11 harg11 x0 x1 x3 x4 k) (ktl x3 k) (sc x1 (2 * (i 0).val) (2 * k)) (sc x1 (2 * (i 0).val) (2 * k + 1)) :=
  t1_succ Variants.none c none i arg2 harg2 arg3 harg3 arg4 harg4 arg5 harg5 arg6 harg6 arg7 harg7 arg8 harg8 arg9 harg9 arg10 harg10 arg11 harg11 x1 x3 _ _ _ _ _ _ _ _ _ k hk

theorem h0S_succ (k : ℕ) (hk : k < (i 1).val) : h0S c i arg2 harg2 arg3 harg3 arg4 harg4 arg5 harg5 arg6 harg6 arg7 harg7 arg8 harg8 arg9 harg9 arg10 harg10 arg11 harg11 x0 x1 x2 x3 x4 x5 (k + 1) = (k1_pay30 (h0S c i arg2 harg2 arg3 harg3 arg4 harg4 arg5 harg5 arg6 harg6 arg7 harg7 arg8 harg8 arg9 harg9 arg10 harg10 arg11 harg11 x0 x1 x2 x3 x4 x5 k).1 (k1_pay2 (kernelRun1_A.sl.v15 (F := Ideal) c arg6 harg6 arg9 x4) (kernelRun1_A.sl.r_2 (F := Ideal) c i arg2 harg2 x0) (k1_pay24 (kernelRun1_A.sl.r_5 (F := Ideal) c i arg2 harg2 arg3 harg3 arg4 harg4 arg5 harg5 arg6 harg6 arg7 harg7 arg8 harg8 arg9 harg9 arg10 harg10 arg11 harg11 x0 x1 x3 x4) (kernelRun1_A.sl.r_6 (F := Ideal) c i arg2 harg2 arg3 harg3 arg4 harg4 arg5 harg5 arg6 harg6 arg7 harg7 arg8 harg8 arg9 harg9 arg10 harg10 arg11 harg11 x0 x1 x3 x4)) (ktl x3 k) (sc x1 (2 * (i 0).val) (2 * k)) (sc x1 (2 * (i 0).val) (2 * k + 1))), [⟨(Rect.unit (s := S128x256) ![64, 0] S64x256.size inb_S128x256_S64x256_64_0), k1_pay29 (k1_pay3 (kernelRun1_A.sl.v15 (F := Ideal) c arg6 harg6 arg9 x4) (kernelRun1_A.sl.r_2 (F := Ideal) c i arg2 harg2 x0) (k1_pay24 (kernelRun1_A.sl.r_5 (F := Ideal) c i arg2 harg2 arg3 harg3 arg4 harg4 arg5 harg5 arg6 harg6 arg7 harg7 arg8 harg8 arg9 harg9 arg10 harg10 arg11 harg11 x0 x1 x3 x4) (kernelRun1_A.sl.r_6 (F := Ideal) c i arg2 harg2 arg3 harg3 arg4 harg4 arg5 harg5 arg6 harg6 arg7 harg7 arg8 harg8 arg9 harg9 arg10 harg10 arg11 harg11 x0 x1 x3 x4)) (ktl x3 k) (sc x1 (2 * (i 0).val) (2 * k)) (sc x1 (2 * (i 0).val) (2 * k + 1))) (vtl x5 0 k) (View.readAt (Elt Ideal) arg10.view (Rect.unit (s := S128x256) ![64, 0] S64x256.size inb_S128x256_S64x256_64_0).toLoadRect (h0f c i arg2 harg2 arg3 harg3 arg4 harg4 arg5 harg5 arg6 harg6 arg7 harg7 arg8 harg8 arg9 harg9 arg10 harg10 arg11 harg11 x0 x1 x2 x3 x4 x5 k)) (sc x2 (2 * (i 0).val) (2 * k + 1))⟩, ⟨(Rect.unit (s := S128x256) ![0, 0] S64x256.size inb_S128x256_S64x256_0_0), k1_pay28 (k1_pay3 (kernelRun1_A.sl.v15 (F := Ideal) c arg6 harg6 arg9 x4) (kernelRun1_A.sl.r_2 (F := Ideal) c i arg2 harg2 x0) (k1_pay24 (kernelRun1_A.sl.r_5 (F := Ideal) c i arg2 harg2 arg3 harg3 arg4 harg4 arg5 harg5 arg6 harg6 arg7 harg7 arg8 harg8 arg9 harg9 arg10 harg10 arg11 harg11 x0 x1 x3 x4) (kernelRun1_A.sl.r_6 (F := Ideal) c i arg2 harg2 arg3 harg3 arg4 harg4 arg5 harg5 arg6 harg6 arg7 harg7 arg8 harg8 arg9 harg9 arg10 harg10 arg11 harg11 x0 x1 x3 x4)) (ktl x3 k) (sc x1 (2 * (i 0).val) (2 * k)) (sc x1 (2 * (i 0).val) (2 * k + 1))) (vtl x5 0 k) (View.readAt (Elt Ideal) arg10.view (Rect.unit (s := S128x256) ![0, 0] S64x256.size inb_S128x256_S64x256_0_0).toLoadRect (h0f c i arg2 harg2 arg3 harg3 arg4 harg4 arg5 harg5 arg6 harg6 arg7 harg7 arg8 harg8 arg9 harg9 arg10 harg10 arg11 harg11 x0 x1 x2 x3 x4 x5 k)) (sc x2 (2 * (i 0).val) (2 * k))⟩] ++ (h0S c i arg2 harg2 arg3 harg3 arg4 harg4 arg5 harg5 arg6 harg6 arg7 harg7 arg8 harg8 arg9 harg9 arg10 harg10 arg11 harg11 x0 x1 x2 x3 x4 x5 k).2) :=
  t3_succ Variants.none c none i arg2 harg2 arg3 harg3 arg4 harg4 arg5 harg5 arg6 harg6 arg7 harg7 arg8 harg8 arg9 harg9 arg10 harg10 arg11 harg11 x1 x2 x3 x5 _ _ _ _ _ _ _ _ _ k hk

theorem h0_r_5 : (kernelRun1_A.sl.r_5 (F := Ideal) c i arg2 harg2 arg3 harg3 arg4 harg4 arg5 harg5 arg6 harg6 arg7 harg7 arg8 harg8 arg9 harg9 arg10 harg10 arg11 harg11 x0 x1 x3 x4) = k1_pay20 k1_pay13 (kernelRun1_A.sl.v15 (F := Ideal) c arg6 harg6 arg9 x4) (kernelRun1_A.sl.r_2 (F := Ideal) c i arg2 harg2 x0) (h0M c i arg2 harg2 arg3 harg3 arg4 harg4 arg5 harg5 arg6 harg6 arg7 harg7 arg8 harg8 arg9 harg9 arg10 harg10 arg11 harg11 x0 x1 x3 x4 (i 1).val) (ktl x3 (i 1).val) (sc x1 (2 * (i 0).val) (2 * (i 1).val)) (sc x1 (2 * (i 0).val) (2 * (i 1).val + 1)) := by
  unfold kernelRun1_A.sl.r_5
  rw [show Scf.trips (k1_t2_loop i).lb (k1_t2_loop i).ub (k1_t2_loop i).st = 0 from trips2 i, show Scf.trips (k1_t1_loop i).lb (k1_t1_loop i).ub (k1_t1_loop i).st = (i 1).val from trips1 i, read_kt arg5 harg5 x3 _ (k1_off7_inb i) _ (vec2 (rows (i 1)) rfl), h0_r_3, h0_r_4]
  rfl

theorem h0_r_6 : (kernelRun1_A.sl.r_6 (F := Ideal) c i arg2 harg2 arg3 harg3 arg4 harg4 arg5 harg5 arg6 harg6 arg7 harg7 arg8 harg8 arg9 harg9 arg10 harg10 arg11 harg11 x0 x1 x3 x4) = k1_pay21 k1_pay13 (kernelRun1_A.sl.v15 (F := Ideal) c arg6 harg6 arg9 x4) (kernelRun1_A.sl.r_2 (F := Ideal) c i arg2 harg2 x0) (h0M c i arg2 harg2 arg3 harg3 arg4 harg4 arg5 harg5 arg6 harg6 arg7 harg7 arg8 harg8 arg9 harg9 arg10 harg10 arg11 harg11 x0 x1 x3 x4 (i 1).val) (ktl x3 (i 1).val) (sc x1 (2 * (i 0).val) (2 * (i 1).val)) (sc x1 (2 * (i 0).val) (2 * (i 1).val + 1)) := by
  unfold kernelRun1_A.sl.r_6
  rw [show Scf.trips (k1_t2_loop i).lb (k1_t2_loop i).ub (k1_t2_loop i).st = 0 from trips2 i, show Scf.trips (k1_t1_loop i).lb (k1_t1_loop i).ub (k1_t1_loop i).st = (i 1).val from trips1 i, read_kt arg5 harg5 x3 _ (k1_off7_inb i) _ (vec2 (rows (i 1)) rfl), h0_r_3, h0_r_4]
  rfl

theorem h0_r_7 : (kernelRun1_A.sl.r_7 (F := Ideal) c i arg2 harg2 arg3 harg3 arg4 harg4 arg5 harg5 arg6 harg6 arg7 harg7 arg8 harg8 arg9 harg9 arg10 harg10 arg11 harg11 x0 x1 x3 x4) = k1_pay23 (kernelRun1_A.sl.r_6 (F := Ideal) c i arg2 harg2 arg3 harg3 arg4 harg4 arg5 harg5 arg6 harg6 arg7 harg7 arg8 harg8 arg9 harg9 arg10 harg10 arg11 harg11 x0 x1 x3 x4) := rfl

theorem h0_r_8 : (kernelRun1_A.sl.r_8 (F := Ideal) c i arg2 harg2 arg3 harg3 arg4 harg4 arg5 harg5 arg6 harg6 arg7 harg7 arg8 harg8 arg9 harg9 arg10 harg10 arg11 harg11 x0 x1 x3 x4) = k1_pay24 (kernelRun1_A.sl.r_5 (F := Ideal) c i arg2 harg2 arg3 harg3 arg4 harg4 arg5 harg5 arg6 harg6 arg7 harg7 arg8 harg8 arg9 harg9 arg10 harg10 arg11 harg11 x0 x1 x3 x4) (kernelRun1_A.sl.r_6 (F := Ideal) c i arg2 harg2 arg3 harg3 arg4 harg4 arg5 harg5 arg6 harg6 arg7 harg7 arg8 harg8 arg9 harg9 arg10 harg10 arg11 harg11 x0 x1 x3 x4) := rfl

theorem h0_r_9 : (kernelRun1_A.sl.r_9 (F := Ideal) c i arg2 harg2 arg3 harg3 arg4 harg4 arg5 harg5 arg6 harg6 arg7 harg7 arg8 harg8 arg9 harg9 arg10 harg10 arg11 harg11 x0 x1 x2 x3 x4 x5) = (h0S c i arg2 harg2 arg3 harg3 arg4 harg4 arg5 harg5 arg6 harg6 arg7 harg7 arg8 harg8 arg9 harg9 arg10 harg10 arg11 harg11 x0 x1 x2 x3 x4 x5 (i 1).val).1 := by
  unfold kernelRun1_A.sl.r_9
  rw [show Scf.trips (k1_t4_loop i).lb (k1_t4_loop i).ub (k1_t4_loop i).st = 0 from trips4 i, show Scf.trips (k1_t3_loop i).lb (k1_t3_loop i).ub (k1_t3_loop i).st = (i 1).val from trips3 i]
  rfl

theorem h0_r_12 : (kernelRun1_A.sl.r_12 (F := Ideal) i arg3 harg3 x1) = sc x1 (2 * (i 0).val) (2 * (i 1).val) := read_sc arg3 harg3 x1 _ _ _ _ _ (vec2 (head0 (i 0)) (kblk0 (i 1)))

theorem h0_r_13 : (kernelRun1_A.sl.r_13 (F := Ideal) i arg3 harg3 x1) = sc x1 (2 * (i 0).val) (2 * (i 1).val + 1) := read_sc arg3 harg3 x1 _ _ _ _ _ (vec2 (head0 (i 0)) (kblk1 (i 1)))

theorem h0_r_14 : (kernelRun1_A.sl.r_14 (F := Ideal) c i arg2 harg2 arg3 harg3 arg4 harg4 arg5 harg5 arg6 harg6 arg7 harg7 arg8 harg8 arg9 harg9 arg10 harg10 arg11 harg11 x0 x1 x3 x4) = k1_pay39 (kernelRun1_A.sl.r_2 (F := Ideal) c i arg2 harg2 x0) (k1_pay24 (kernelRun1_A.sl.r_5 (F := Ideal) c i arg2 harg2 arg3 harg3 arg4 harg4 arg5 harg5 arg6 harg6 arg7 harg7 arg8 harg8 arg9 harg9 arg10 harg10 arg11 harg11 x0 x1 x3 x4) (kernelRun1_A.sl.r_6 (F := Ideal) c i arg2 harg2 arg3 harg3 arg4 harg4 arg5 harg5 arg6 harg6 arg7 harg7 arg8 harg8 arg9 harg9 arg10 harg10 arg11 harg11 x0 x1 x3 x4)) (k1_pay35 (kernelRun1_A.sl.v15 (F := Ideal) c arg6 harg6 arg9 x4) (ktl x3 (i 1).val)) (k1_pay36 k1_pay13) (k1_pay37 (kernelRun1_A.sl.v15 (F := Ideal) c arg6 harg6 arg9 x4) (ktl x3 (i 1).val)) (sc x1 (2 * (i 0).val) (2 * (i 1).val)) (sc x1 (2 * (i 0).val) (2 * (i 1).val + 1)) := by
  unfold kernelRun1_A.sl.r_14 kernelRun1_A.sl.r_10 kernelRun1_A.sl.r_11
  rw [read_kt arg5 harg5 x3 _ (k1_off7_inb i) _ (vec2 (rows (i 1)) rfl), h0_r_12, h0_r_13]
  rfl

theorem h0_r_15 : (kernelRun1_A.sl.r_15 (F := Ideal) c i arg2 harg2 arg3 harg3 arg4 harg4 arg5 harg5 arg6 harg6 arg7 harg7 arg8 harg8 arg9 harg9 arg10 harg10 arg11 harg11 x0 x1 x3 x4 x5) = k1_pay40 (kernelRun1_A.sl.r_2 (F := Ideal) c i arg2 harg2 x0) (k1_pay24 (kernelRun1_A.sl.r_5 (F := Ideal) c i arg2 harg2 arg3 harg3 arg4 harg4 arg5 harg5 arg6 harg6 arg7 harg7 arg8 harg8 arg9 harg9 arg10 harg10 arg11 harg11 x0 x1 x3 x4) (kernelRun1_A.sl.r_6 (F := Ideal) c i arg2 harg2 arg3 harg3 arg4 harg4 arg5 harg5 arg6 harg6 arg7 harg7 arg8 harg8 arg9 harg9 arg10 harg10 arg11 harg11 x0 x1 x3 x4)) (k1_pay35 (kernelRun1_A.sl.v15 (F := Ideal) c arg6 harg6 arg9 x4) (ktl x3 (i 1).val)) (k1_pay36 k1_pay13) (k1_pay37 (kernelRun1_A.sl.v15 (F := Ideal) c arg6 harg6 arg9 x4) (ktl x3 (i 1).val)) (sc x1 (2 * (i 0).val) (2 * (i 1).val)) (sc x1 (2 * (i 0).val) (2 * (i 1).val + 1)) (vtl x5 0 (i 1).val) := by
  unfold kernelRun1_A.sl.r_15 kernelRun1_A.sl.r_10 kernelRun1_A.sl.r_11
  rw [read_kt arg5 harg5 x3 _ (k1_off7_inb i) _ (vec2 (rows (i 1)) rfl), h0_r_12, h0_r_13, read_vt arg7 harg7 x5 _ (k1_off15_inb i) 0 _ (vec4 _ _ _ (rows (i 1)))]
  rfl

/-- The pieces before the diagonal tile of head 0. -/
def h0B : List (View.Piece (Elt Ideal) S128x256 .f32) := (st_k1_t4 (F := Ideal) Variants.none c none i arg2 harg2 arg3 harg3 arg4 harg4 arg5 harg5 arg6 harg6 arg7 harg7 arg8 harg8 arg9 harg9 arg10 harg10 arg11 harg11 (BitVec.ofNat 32 (i 1).val) k1_pay13 (kernelRun1_A.sl.v5 i) (kernelRun1_A.sl.v15 (F := Ideal) c arg6 harg6 arg9 x4) (kernelRun1_A.sl.r_2 (F := Ideal) c i arg2 harg2 x0) (kernelRun1_A.sl.r_5 (F := Ideal) c i arg2 harg2 arg3 harg3 arg4 harg4 arg5 harg5 arg6 harg6 arg7 harg7 arg8 harg8 arg9 harg9 arg10 harg10 arg11 harg11 x0 x1 x3 x4) (kernelRun1_A.sl.r_6 (F := Ideal) c i arg2 harg2 arg3 harg3 arg4 harg4 arg5 harg5 arg6 harg6 arg7 harg7 arg8 harg8 arg9 harg9 arg10 harg10 arg11 harg11 x0 x1 x3 x4) (kernelRun1_A.sl.v109 i) (harg3.unread x1) (harg4.unread x2) (harg5.unread x3) (harg7.unread x5) (arg10.view.writes (Elt Ideal) arg10.view.junk ((h0S c i arg2 harg2 arg3 harg3 arg4 harg4 arg5 harg5 arg6 harg6 arg7 harg7 arg8 harg8 arg9 harg9 arg10 harg10 arg11 harg11 x0 x1 x2 x3 x4 x5 (Scf.trips (k1_t3_loop i).lb (k1_t3_loop i).ub (k1_t3_loop i).st)).2 ++ (kernelRun1_A.sl.HS1_1 (F := Ideal)))) (h0S c i arg2 harg2 arg3 harg3 arg4 harg4 arg5 harg5 arg6 harg6 arg7 harg7 arg8 harg8 arg9 harg9 arg10 harg10 arg11 harg11 x0 x1 x2 x3 x4 x5 (Scf.trips (k1_t3_loop i).lb (k1_t3_loop i).ub (k1_t3_loop i).st)).1 (Scf.trips (k1_t4_loop i).lb (k1_t4_loop i).ub (k1_t4_loop i).st)).2 ++ ((h0S c i arg2 harg2 arg3 harg3 arg4 harg4 arg5 harg5 arg6 harg6 arg7 harg7 arg8 harg8 arg9 harg9 arg10 harg10 arg11 harg11 x0 x1 x2 x3 x4 x5 (Scf.trips (k1_t3_loop i).lb (k1_t3_loop i).ub (k1_t3_loop i).st)).2 ++ (kernelRun1_A.sl.HS1_1 (F := Ideal)))

theorem h0B_eq : h0B c i arg2 harg2 arg3 harg3 arg4 harg4 arg5 harg5 arg6 harg6 arg7 harg7 arg8 harg8 arg9 harg9 arg10 harg10 arg11 harg11 x0 x1 x2 x3 x4 x5 = (h0S c i arg2 harg2 arg3 harg3 arg4 harg4 arg5 harg5 arg6 harg6 arg7 harg7 arg8 harg8 arg9 harg9 arg10 harg10 arg11 harg11 x0 x1 x2 x3 x4 x5 (i 1).val).2 ++ (kernelRun1_A.sl.HS1_1 (F := Ideal)) := by
  unfold h0B
  rw [show Scf.trips (k1_t4_loop i).lb (k1_t4_loop i).ub (k1_t4_loop i).st = 0 from trips4 i, show Scf.trips (k1_t3_loop i).lb (k1_t3_loop i).ub (k1_t3_loop i).st = (i 1).val from trips3 i]
  rfl

theorem h0B_writes (L : List (View.Piece (Elt Ideal) S128x256 .f32)) : arg10.view.writes (Elt Ideal) arg10.view.junk (L ++ h0B c i arg2 harg2 arg3 harg3 arg4 harg4 arg5 harg5 arg6 harg6 arg7 harg7 arg8 harg8 arg9 harg9 arg10 harg10 arg11 harg11 x0 x1 x2 x3 x4 x5) = arg10.view.writes (Elt Ideal) (h0f c i arg2 harg2 arg3 harg3 arg4 harg4 arg5 harg5 arg6 harg6 arg7 harg7 arg8 harg8 arg9 harg9 arg10 harg10 arg11 harg11 x0 x1 x2 x3 x4 x5 (i 1).val) L := by
  rw [h0B_eq, View.writes_append, View.writes_append]; rfl

theorem h0_v169 : (kernelRun1_A.sl.v169 (F := Ideal) c i arg2 harg2 arg3 harg3 arg4 harg4 arg5 harg5 arg6 harg6 arg7 harg7 arg8 harg8 arg9 harg9 arg10 harg10 arg11 harg11 x0 x1 x2 x3 x4 x5) = View.readAt (Elt Ideal) arg10.view (Rect.unit (s := S128x256) ![0, 0] S64x256.size inb_S128x256_S64x256_0_0).toLoadRect (h0f c i arg2 harg2 arg3 harg3 arg4 harg4 arg5 harg5 arg6 harg6 arg7 harg7 arg8 harg8 arg9 harg9 arg10 harg10 arg11 harg11 x0 x1 x2 x3 x4 x5 (i 1).val) := by
  rw [← View.writes_nil (v := arg10.view) (f := h0f c i arg2 harg2 arg3 harg3 arg4 harg4 arg5 harg5 arg6 harg6 arg7 harg7 arg8 harg8 arg9 harg9 arg10 harg10 arg11 harg11 x0 x1 x2 x3 x4 x5 (i 1).val), ← h0B_writes]; rfl

theorem h0_HS1_1_1 : arg10.view.writes (Elt Ideal) arg10.view.junk (kernelRun1_A.sl.HS1_1_1 (F := Ideal) c i arg2 harg2 arg3 harg3 arg4 harg4 arg5 harg5 arg6 harg6 arg7 harg7 arg8 harg8 arg9 harg9 arg10 harg10 arg11 harg11 x0 x1 x2 x3 x4 x5) = arg10.view.writes (Elt Ideal) (h0f c i arg2 harg2 arg3 harg3 arg4 harg4 arg5 harg5 arg6 harg6 arg7 harg7 arg8 harg8 arg9 harg9 arg10 harg10 arg11 harg11 x0 x1 x2 x3 x4 x5 (i 1).val) [(⟨(Rect.unit (s := S128x256) ![0, 0] S64x256.size inb_S128x256_S64x256_0_0), k1_pay41 (kernelRun1_A.sl.r_15 (F := Ideal) c i arg2 harg2 arg3 harg3 arg4 harg4 arg5 harg5 arg6 harg6 arg7 harg7 arg8 harg8 arg9 harg9 arg10 harg10 arg11 harg11 x0 x1 x3 x4 x5) (kernelRun1_A.sl.v169 (F := Ideal) c i arg2 harg2 arg3 harg3 arg4 harg4 arg5 harg5 arg6 harg6 arg7 harg7 arg8 harg8 arg9 harg9 arg10 harg10 arg11 harg11 x0 x1 x2 x3 x4 x5) (kernelRun1_A.sl.r_16 (F := Ideal) i arg4 harg4 x2)⟩ : View.Piece (Elt Ideal) S128x256 .f32)] := by
  rw [← h0B_writes]; rfl

theorem h0_HS1_2 : arg10.view.writes (Elt Ideal) arg10.view.junk (kernelRun1_A.sl.HS1_2 (F := Ideal) c i arg2 harg2 arg3 harg3 arg4 harg4 arg5 harg5 arg6 harg6 arg7 harg7 arg8 harg8 arg9 harg9 arg10 harg10 arg11 harg11 x0 x1 x2 x3 x4 x5) = arg10.view.writes (Elt Ideal) (h0f c i arg2 harg2 arg3 harg3 arg4 harg4 arg5 harg5 arg6 harg6 arg7 harg7 arg8 harg8 arg9 harg9 arg10 harg10 arg11 harg11 x0 x1 x2 x3 x4 x5 (i 1).val) [(⟨(Rect.unit (s := S128x256) ![64, 0] S64x256.size inb_S128x256_S64x256_64_0), k1_pay42 (kernelRun1_A.sl.r_15 (F := Ideal) c i arg2 harg2 arg3 harg3 arg4 harg4 arg5 harg5 arg6 harg6 arg7 harg7 arg8 harg8 arg9 harg9 arg10 harg10 arg11 harg11 x0 x1 x3 x4 x5) (kernelRun1_A.sl.v182 (F := Ideal) c i arg2 harg2 arg3 harg3 arg4 harg4 arg5 harg5 arg6 harg6 arg7 harg7 arg8 harg8 arg9 harg9 arg10 harg10 arg11 harg11 x0 x1 x2 x3 x4 x5) (kernelRun1_A.sl.r_17 (F := Ideal) i arg4 harg4 x2)⟩ : View.Piece (Elt Ideal) S128x256 .f32), (⟨(Rect.unit (s := S128x256) ![0, 0] S64x256.size inb_S128x256_S64x256_0_0), k1_pay41 (kernelRun1_A.sl.r_15 (F := Ideal) c i arg2 harg2 arg3 harg3 arg4 harg4 arg5 harg5 arg6 harg6 arg7 harg7 arg8 harg8 arg9 harg9 arg10 harg10 arg11 harg11 x0 x1 x3 x4 x5) (kernelRun1_A.sl.v169 (F := Ideal) c i arg2 harg2 arg3 harg3 arg4 harg4 arg5 harg5 arg6 harg6 arg7 harg7 arg8 harg8 arg9 harg9 arg10 harg10 arg11 harg11 x0 x1 x2 x3 x4 x5) (kernelRun1_A.sl.r_16 (F := Ideal) i arg4 harg4 x2)⟩ : View.Piece (Elt Ideal) S128x256 .f32)] := by
  rw [← h0B_writes]; rfl

/-- One row of head 0's results. -/
theorem h0_value {q : Fin 256} {z w u : ℕ → ℝ} {l : ℕ} (H : Scs (kernelRun1_A.sl.v15 (F := Ideal) c arg6 harg6 arg9 x4) (kernelRun1_A.sl.r_2 (F := Ideal) c i arg2 harg2 x0) q (i 1).val (ktl x3) (fun k => sc x1 (2 * (i 0).val) (2 * k)) (fun k => sc x1 (2 * (i 0).val) (2 * k + 1)) z) (hv' : ∀ t ≤ (i 1).val, Vt (vtl x5 0 t) l (fun x => w (t * 256 + x))) (hu : ∀ m, m < 256 → sc x2 (2 * (i 0).val) m = (u m : EReal)) (hl : l < 64) :
    k1_pay43 (kernelRun1_A.sl.r_7 (F := Ideal) c i arg2 harg2 arg3 harg3 arg4 harg4 arg5 harg5 arg6 harg6 arg7 harg7 arg8 harg8 arg9 harg9 arg10 harg10 arg11 harg11 x0 x1 x3 x4) (kernelRun1_A.sl.r_9 (F := Ideal) c i arg2 harg2 arg3 harg3 arg4 harg4 arg5 harg5 arg6 harg6 arg7 harg7 arg8 harg8 arg9 harg9 arg10 harg10 arg11 harg11 x0 x1 x2 x3 x4 x5) (kernelRun1_A.sl.r_14 (F := Ideal) c i arg2 harg2 arg3 harg3 arg4 harg4 arg5 harg5 arg6 harg6 arg7 harg7 arg8 harg8 arg9 harg9 arg10 harg10 arg11 harg11 x0 x1 x3 x4) (kernelRun1_A.sl.v199 (F := Ideal) c i arg2 harg2 arg3 harg3 arg4 harg4 arg5 harg5 arg6 harg6 arg7 harg7 arg8 harg8 arg9 harg9 arg10 harg10 arg11 harg11 x0 x1 x2 x3 x4 x5) (kernelRun1_A.sl.v200 (F := Ideal) c i arg2 harg2 arg3 harg3 arg4 harg4 arg5 harg5 arg6 harg6 arg7 harg7 arg8 harg8 arg9 harg9 arg10 harg10 arg11 harg11 x0 x1 x2 x3 x4 x5) (ix2 (⟨l, hl⟩ : Fin 64) q) = (attn z w u ((i 1).val * 256 + q.val) : EReal) := by
  have hn : (i 1).val < 128 := (i 1).isLt
  have key := head_value (v := arg10.view) (u := u) H hn hv' hl (h0M c i arg2 harg2 arg3 harg3 arg4 harg4 arg5 harg5 arg6 harg6 arg7 harg7 arg8 harg8 arg9 harg9 arg10 harg10 arg11 harg11 x0 x1 x3 x4) rfl (h0M_succ c i arg2 harg2 arg3 harg3 arg4 harg4 arg5 harg5 arg6 harg6 arg7 harg7 arg8 harg8 arg9 harg9 arg10 harg10 arg11 harg11 x0 x1 x3 x4) (kernelRun1_A.sl.r_5 (F := Ideal) c i arg2 harg2 arg3 harg3 arg4 harg4 arg5 harg5 arg6 harg6 arg7 harg7 arg8 harg8 arg9 harg9 arg10 harg10 arg11 harg11 x0 x1 x3 x4) (kernelRun1_A.sl.r_6 (F := Ideal) c i arg2 harg2 arg3 harg3 arg4 harg4 arg5 harg5 arg6 harg6 arg7 harg7 arg8 harg8 arg9 harg9 arg10 harg10 arg11 harg11 x0 x1 x3 x4) (h0_r_5 c i arg2 harg2 arg3 harg3 arg4 harg4 arg5 harg5 arg6 harg6 arg7 harg7 arg8 harg8 arg9 harg9 arg10 harg10 arg11 harg11 x0 x1 x3 x4) (h0_r_6 c i arg2 harg2 arg3 harg3 arg4 harg4 arg5 harg5 arg6 harg6 arg7 harg7 arg8 harg8 arg9 harg9 arg10 harg10 arg11 harg11 x0 x1 x3 x4) (fun k => (h0S c i arg2 harg2 arg3 harg3 arg4 harg4 arg5 harg5 arg6 harg6 arg7 harg7 arg8 harg8 arg9 harg9 arg10 harg10 arg11 harg11 x0 x1 x2 x3 x4 x5 k).1) rfl
    (fun k hk => by show (h0S c i arg2 harg2 arg3 harg3 arg4 harg4 arg5 harg5 arg6 harg6 arg7 harg7 arg8 harg8 arg9 harg9 arg10 harg10 arg11 harg11 x0 x1 x2 x3 x4 x5 (k + 1)).1 = _; rw [h0S_succ c i arg2 harg2 arg3 harg3 arg4 harg4 arg5 harg5 arg6 harg6 arg7 harg7 arg8 harg8 arg9 harg9 arg10 harg10 arg11 harg11 x0 x1 x2 x3 x4 x5 k hk])
    (h0f c i arg2 harg2 arg3 harg3 arg4 harg4 arg5 harg5 arg6 harg6 arg7 harg7 arg8 harg8 arg9 harg9 arg10 harg10 arg11 harg11 x0 x1 x2 x3 x4 x5) (rows_zero _ l)
    (fun k hk => by
      rw [← hu (2 * k) (by omega), ← hu (2 * k + 1) (by omega)]
      exact (congrArg (fun S => arg10.view.writes (Elt Ideal) (arg10.view.writes (Elt Ideal) arg10.view.junk (kernelRun1_A.sl.HS1_1 (F := Ideal))) S.2) (h0S_succ c i arg2 harg2 arg3 harg3 arg4 harg4 arg5 harg5 arg6 harg6 arg7 harg7 arg8 harg8 arg9 harg9 arg10 harg10 arg11 harg11 x0 x1 x2 x3 x4 x5 k hk)).trans (View.writes_append _ _ _ _))
    (kernelRun1_A.sl.r_15 (F := Ideal) c i arg2 harg2 arg3 harg3 arg4 harg4 arg5 harg5 arg6 harg6 arg7 harg7 arg8 harg8 arg9 harg9 arg10 harg10 arg11 harg11 x0 x1 x3 x4 x5) (h0_r_15 c i arg2 harg2 arg3 harg3 arg4 harg4 arg5 harg5 arg6 harg6 arg7 harg7 arg8 harg8 arg9 harg9 arg10 harg10 arg11 harg11 x0 x1 x3 x4 x5) (arg10.view.writes (Elt Ideal) arg10.view.junk (kernelRun1_A.sl.HS1_1_1 (F := Ideal) c i arg2 harg2 arg3 harg3 arg4 harg4 arg5 harg5 arg6 harg6 arg7 harg7 arg8 harg8 arg9 harg9 arg10 harg10 arg11 harg11 x0 x1 x2 x3 x4 x5)) (arg10.view.writes (Elt Ideal) arg10.view.junk (kernelRun1_A.sl.HS1_2 (F := Ideal) c i arg2 harg2 arg3 harg3 arg4 harg4 arg5 harg5 arg6 harg6 arg7 harg7 arg8 harg8 arg9 harg9 arg10 harg10 arg11 harg11 x0 x1 x2 x3 x4 x5))
    (by rw [h0_HS1_1_1, h0_v169, h0_r_16, hu (2 * (i 1).val) (by omega)])
    (by rw [h0_HS1_2, h0_v169, h0_r_16, h0_r_17, hu (2 * (i 1).val) (by omega), hu (2 * (i 1).val + 1) (by omega)]; rfl)
  rw [h0_r_7, h0_r_9, h0_r_14]
  exact key

/-! ## Head 1 of the pair -/

/-- The running maxima of head 1. -/
def h1M : ℕ → FVec Ideal S8x256 .f32 := st_k1_t5 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) kernelRun1_A.sl.v0 2#32 (kernelRun1_A.sl.v219 (F := Ideal) c arg6 harg6 arg9 x4) (kernelRun1_A.sl.r_18 (F := Ideal) c i arg2 harg2 x0) (kernelRun1_A.sl.r_19 (F := Ideal) c i arg2 harg2 x0) (harg3.unread x1) (harg5.unread x3) k1_pay47

/-- The sums and pieces of head 1. -/
def h1S : ℕ → FVec Ideal S8x256 .f32 × List (View.Piece (Elt Ideal) S128x256 .f32) := st_k1_t7 (F := Ideal) Variants.none c none i arg2 harg2 arg3 harg3 arg4 harg4 arg5 harg5 arg6 harg6 arg7 harg7 arg8 harg8 arg9 harg9 arg10 harg10 arg11 harg11 (BitVec.ofNat 32 (i 1).val) k1_pay13 (kernelRun1_A.sl.v209 i) (kernelRun1_A.sl.v219 (F := Ideal) c arg6 harg6 arg9 x4) (kernelRun1_A.sl.r_20 (F := Ideal) c i arg2 harg2 x0) (kernelRun1_A.sl.r_24 (F := Ideal) c i arg2 harg2 arg3 harg3 arg4 harg4 arg5 harg5 arg6 harg6 arg7 harg7 arg8 harg8 arg9 harg9 arg10 harg10 arg11 harg11 x0 x1 x3 x4) (kernelRun1_A.sl.r_25 (F := Ideal) c i arg2 harg2 arg3 harg3 arg4 harg4 arg5 harg5 arg6 harg6 arg7 harg7 arg8 harg8 arg9 harg9 arg10 harg10 arg11 harg11 x0 x1 x3 x4) (kernelRun1_A.sl.r_26 (F := Ideal) c i arg2 harg2 arg3 harg3 arg4 harg4 arg5 harg5 arg6 harg6 arg7 harg7 arg8 harg8 arg9 harg9 arg10 harg10 arg11 harg11 x0 x1 x3 x4) k1_pay53 (harg3.unread x1) (harg4.unread x2) (harg5.unread x3) (harg7.unread x5) (arg10.view.writes (Elt Ideal) arg10.view.junk ((⟨(Rect.unit (s := S128x256) ![0, 0] S128x256.size inb_S128x256_S128x256_0_0), k1_pay57 (F := Ideal)⟩ : View.Piece (Elt Ideal) S128x256 .f32) :: (kernelRun1_A.sl.HS1_2 (F := Ideal) c i arg2 harg2 arg3 harg3 arg4 harg4 arg5 harg5 arg6 harg6 arg7 harg7 arg8 harg8 arg9 harg9 arg10 harg10 arg11 harg11 x0 x1 x2 x3 x4 x5))) k1_pay58

/-- The accumulator's contents of head 1. -/
def h1f (k : ℕ) : BufTy.Contents (Elt Ideal) arg10.view.ty := arg10.view.writes (Elt Ideal) (arg10.view.writes (Elt Ideal) arg10.view.junk ((⟨(Rect.unit (s := S128x256) ![0, 0] S128x256.size inb_S128x256_S128x256_0_0), k1_pay57 (F := Ideal)⟩ : View.Piece (Elt Ideal) S128x256 .f32) :: (kernelRun1_A.sl.HS1_2 (F := Ideal) c i arg2 harg2 arg3 harg3 arg4 harg4 arg5 harg5 arg6 harg6 arg7 harg7 arg8 harg8 arg9 harg9 arg10 harg10 arg11 harg11 x0 x1 x2 x3 x4 x5))) (h1S c i arg2 harg2 arg3 harg3 arg4 harg4 arg5 harg5 arg6 harg6 arg7 harg7 arg8 harg8 arg9 harg9 arg10 harg10 arg11 harg11 x0 x1 x2 x3 x4 x5 k).2

theorem h1_r_18 : (kernelRun1_A.sl.r_18 (F := Ideal) c i arg2 harg2 x0) = sc x0 (2 * (i 0).val + 1) (2 * (i 1).val) := read_sc arg2 harg2 x0 _ _ _ _ _ (vec2 (head1 (i 0)) (qblk0 (i 1)))

theorem h1_r_19 : (kernelRun1_A.sl.r_19 (F := Ideal) c i arg2 harg2 x0) = sc x0 (2 * (i 0).val + 1) (2 * (i 1).val + 1) := read_sc arg2 harg2 x0 _ _ _ _ _ (vec2 (head1 (i 0)) (qblk1 (i 1)))

theorem h1_r_22 : (kernelRun1_A.sl.r_22 (F := Ideal) i arg3 harg3 x1) = sc x1 (2 * (i 0).val + 1) (2 * (i 1).val) := read_sc arg3 harg3 x1 _ _ _ _ _ (vec2 (head1 (i 0)) (kblk0 (i 1)))

theorem h1_r_23 : (kernelRun1_A.sl.r_23 (F := Ideal) i arg3 harg3 x1) = sc x1 (2 * (i 0).val + 1) (2 * (i 1).val + 1) := read_sc arg3 harg3 x1 _ _ _ _ _ (vec2 (head1 (i 0)) (kblk1 (i 1)))

theorem h1_r_38 : (kernelRun1_A.sl.r_38 (F := Ideal) i arg4 harg4 x2) = sc x2 (2 * (i 0).val + 1) (2 * (i 1).val) := read_sc arg4 harg4 x2 _ _ _ _ _ (vec2 (head1 (i 0)) (kblk0 (i 1)))

theorem h1_r_39 : (kernelRun1_A.sl.r_39 (F := Ideal) i arg4 harg4 x2) = sc x2 (2 * (i 0).val + 1) (2 * (i 1).val + 1) := read_sc arg4 harg4 x2 _ _ _ _ _ (vec2 (head1 (i 0)) (kblk1 (i 1)))

theorem h1_r_20 : (kernelRun1_A.sl.r_20 (F := Ideal) c i arg2 harg2 x0) = k1_pay16 (sc x0 (2 * (i 0).val + 1) (2 * (i 1).val)) (sc x0 (2 * (i 0).val + 1) (2 * (i 1).val + 1)) := congr (congrArg k1_pay16 (h1_r_18 c i arg2 harg2 x0)) (h1_r_19 c i arg2 harg2 x0)

theorem h1M_succ (k : ℕ) (hk : k < (i 1).val) : h1M c i arg2 harg2 arg3 harg3 arg4 harg4 arg5 harg5 arg6 harg6 arg7 harg7 arg8 harg8 arg9 harg9 arg10 harg10 arg11 harg11 x0 x1 x3 x4 (k + 1) = k1_pay18 (kernelRun1_A.sl.v219 (F := Ideal) c arg6 harg6 arg9 x4) (kernelRun1_A.sl.r_20 (F := Ideal) c i arg2 harg2 x0) (h1M c i arg2 harg2 arg3 harg3 arg4 harg4 arg5 harg5 arg6 harg6 arg7 harg7 arg8 harg8 arg9 harg9 arg10 harg10 arg11 harg11 x0 x1 x3 x4 k) (ktl x3 k) (sc x1 (2 * (i 0).val + 1) (2 * k)) (sc x1 (2 * (i 0).val + 1) (2 * k + 1)) :=
  t5_succ Variants.none c none i arg2 harg2 arg3 harg3 arg4 harg4 arg5 harg5 arg6 harg6 arg7 harg7 arg8 harg8 arg9 harg9 arg10 harg10 arg11 harg11 x1 x3 _ _ _ _ _ _ _ _ k hk

theorem h1S_succ (k : ℕ) (hk : k < (i 1).val) : h1S c i arg2 harg2 arg3 harg3 arg4 harg4 arg5 harg5 arg6 harg6 arg7 harg7 arg8 harg8 arg9 harg9 arg10 harg10 arg11 harg11 x0 x1 x2 x3 x4 x5 (k + 1) = (k1_pay30 (h1S c i arg2 harg2 arg3 harg3 arg4 harg4 arg5 harg5 arg6 harg6 arg7 harg7 arg8 harg8 arg9 harg9 arg10 harg10 arg11 harg11 x0 x1 x2 x3 x4 x5 k).1 (k1_pay2 (kernelRun1_A.sl.v219 (F := Ideal) c arg6 harg6 arg9 x4) (kernelRun1_A.sl.r_20 (F := Ideal) c i arg2 harg2 x0) (k1_pay24 (kernelRun1_A.sl.r_24 (F := Ideal) c i arg2 harg2 arg3 harg3 arg4 harg4 arg5 harg5 arg6 harg6 arg7 harg7 arg8 harg8 arg9 harg9 arg10 harg10 arg11 harg11 x0 x1 x3 x4) (kernelRun1_A.sl.r_25 (F := Ideal) c i arg2 harg2 arg3 harg3 arg4 harg4 arg5 harg5 arg6 harg6 arg7 harg7 arg8 harg8 arg9 harg9 arg10 harg10 arg11 harg11 x0 x1 x3 x4)) (ktl x3 k) (sc x1 (2 * (i 0).val + 1) (2 * k)) (sc x1 (2 * (i 0).val + 1) (2 * k + 1))), [⟨(Rect.unit (s := S128x256) ![64, 0] S64x256.size inb_S128x256_S64x256_64_0), k1_pay29 (k1_pay3 (kernelRun1_A.sl.v219 (F := Ideal) c arg6 harg6 arg9 x4) (kernelRun1_A.sl.r_20 (F := Ideal) c i arg2 harg2 x0) (k1_pay24 (kernelRun1_A.sl.r_24 (F := Ideal) c i arg2 harg2 arg3 harg3 arg4 harg4 arg5 harg5 arg6 harg6 arg7 harg7 arg8 harg8 arg9 harg9 arg10 harg10 arg11 harg11 x0 x1 x3 x4) (kernelRun1_A.sl.r_25 (F := Ideal) c i arg2 harg2 arg3 harg3 arg4 harg4 arg5 harg5 arg6 harg6 arg7 harg7 arg8 harg8 arg9 harg9 arg10 harg10 arg11 harg11 x0 x1 x3 x4)) (ktl x3 k) (sc x1 (2 * (i 0).val + 1) (2 * k)) (sc x1 (2 * (i 0).val + 1) (2 * k + 1))) (vtl x5 1 k) (View.readAt (Elt Ideal) arg10.view (Rect.unit (s := S128x256) ![64, 0] S64x256.size inb_S128x256_S64x256_64_0).toLoadRect (h1f c i arg2 harg2 arg3 harg3 arg4 harg4 arg5 harg5 arg6 harg6 arg7 harg7 arg8 harg8 arg9 harg9 arg10 harg10 arg11 harg11 x0 x1 x2 x3 x4 x5 k)) (sc x2 (2 * (i 0).val + 1) (2 * k + 1))⟩, ⟨(Rect.unit (s := S128x256) ![0, 0] S64x256.size inb_S128x256_S64x256_0_0), k1_pay28 (k1_pay3 (kernelRun1_A.sl.v219 (F := Ideal) c arg6 harg6 arg9 x4) (kernelRun1_A.sl.r_20 (F := Ideal) c i arg2 harg2 x0) (k1_pay24 (kernelRun1_A.sl.r_24 (F := Ideal) c i arg2 harg2 arg3 harg3 arg4 harg4 arg5 harg5 arg6 harg6 arg7 harg7 arg8 harg8 arg9 harg9 arg10 harg10 arg11 harg11 x0 x1 x3 x4) (kernelRun1_A.sl.r_25 (F := Ideal) c i arg2 harg2 arg3 harg3 arg4 harg4 arg5 harg5 arg6 harg6 arg7 harg7 arg8 harg8 arg9 harg9 arg10 harg10 arg11 harg11 x0 x1 x3 x4)) (ktl x3 k) (sc x1 (2 * (i 0).val + 1) (2 * k)) (sc x1 (2 * (i 0).val + 1) (2 * k + 1))) (vtl x5 1 k) (View.readAt (Elt Ideal) arg10.view (Rect.unit (s := S128x256) ![0, 0] S64x256.size inb_S128x256_S64x256_0_0).toLoadRect (h1f c i arg2 harg2 arg3 harg3 arg4 harg4 arg5 harg5 arg6 harg6 arg7 harg7 arg8 harg8 arg9 harg9 arg10 harg10 arg11 harg11 x0 x1 x2 x3 x4 x5 k)) (sc x2 (2 * (i 0).val + 1) (2 * k))⟩] ++ (h1S c i arg2 harg2 arg3 harg3 arg4 harg4 arg5 harg5 arg6 harg6 arg7 harg7 arg8 harg8 arg9 harg9 arg10 harg10 arg11 harg11 x0 x1 x2 x3 x4 x5 k).2) :=
  t7_succ Variants.none c none i arg2 harg2 arg3 harg3 arg4 harg4 arg5 harg5 arg6 harg6 arg7 harg7 arg8 harg8 arg9 harg9 arg10 harg10 arg11 harg11 x1 x2 x3 x5 _ _ _ _ _ _ _ _ _ _ _ k hk

theorem h1_r_24 : (kernelRun1_A.sl.r_24 (F := Ideal) c i arg2 harg2 arg3 harg3 arg4 harg4 arg5 harg5 arg6 harg6 arg7 harg7 arg8 harg8 arg9 harg9 arg10 harg10 arg11 harg11 x0 x1 x3 x4) = k1_pay20 k1_pay13 (kernelRun1_A.sl.v219 (F := Ideal) c arg6 harg6 arg9 x4) (kernelRun1_A.sl.r_20 (F := Ideal) c i arg2 harg2 x0) (h1M c i arg2 harg2 arg3 harg3 arg4 harg4 arg5 harg5 arg6 harg6 arg7 harg7 arg8 harg8 arg9 harg9 arg10 harg10 arg11 harg11 x0 x1 x3 x4 (i 1).val) (ktl x3 (i 1).val) (sc x1 (2 * (i 0).val + 1) (2 * (i 1).val)) (sc x1 (2 * (i 0).val + 1) (2 * (i 1).val + 1)) := by
  unfold kernelRun1_A.sl.r_24
  unfold kernelRun1_A.sl.r_21
  rw [show Scf.trips (k1_t6_loop i).lb (k1_t6_loop i).ub (k1_t6_loop i).st = 0 from trips6 i, show Scf.trips (k1_t5_loop i).lb (k1_t5_loop i).ub (k1_t5_loop i).st = (i 1).val from trips5 i, read_kt arg5 harg5 x3 _ (k1_off7_inb i) _ (vec2 (rows (i 1)) rfl), h1_r_22, h1_r_23]
  rfl

theorem h1_r_25 : (kernelRun1_A.sl.r_25 (F := Ideal) c i arg2 harg2 arg3 harg3 arg4 harg4 arg5 harg5 arg6 harg6 arg7 harg7 arg8 harg8 arg9 harg9 arg10 harg10 arg11 harg11 x0 x1 x3 x4) = k1_pay21 k1_pay13 (kernelRun1_A.sl.v219 (F := Ideal) c arg6 harg6 arg9 x4) (kernelRun1_A.sl.r_20 (F := Ideal) c i arg2 harg2 x0) (h1M c i arg2 harg2 arg3 harg3 arg4 harg4 arg5 harg5 arg6 harg6 arg7 harg7 arg8 harg8 arg9 harg9 arg10 harg10 arg11 harg11 x0 x1 x3 x4 (i 1).val) (ktl x3 (i 1).val) (sc x1 (2 * (i 0).val + 1) (2 * (i 1).val)) (sc x1 (2 * (i 0).val + 1) (2 * (i 1).val + 1)) := by
  unfold kernelRun1_A.sl.r_25
  unfold kernelRun1_A.sl.r_21
  rw [show Scf.trips (k1_t6_loop i).lb (k1_t6_loop i).ub (k1_t6_loop i).st = 0 from trips6 i, show Scf.trips (k1_t5_loop i).lb (k1_t5_loop i).ub (k1_t5_loop i).st = (i 1).val from trips5 i, read_kt arg5 harg5 x3 _ (k1_off7_inb i) _ (vec2 (rows (i 1)) rfl), h1_r_22, h1_r_23]
  rfl

theorem h1_r_28 : (kernelRun1_A.sl.r_28 (F := Ideal) c i arg2 harg2 arg3 harg3 arg4 harg4 arg5 harg5 arg6 harg6 arg7 harg7 arg8 harg8 arg9 harg9 arg10 harg10 arg11 harg11 x0 x1 x3 x4) = k1_pay23 (kernelRun1_A.sl.r_25 (F := Ideal) c i arg2 harg2 arg3 harg3 arg4 harg4 arg5 harg5 arg6 harg6 arg7 harg7 arg8 harg8 arg9 harg9 arg10 harg10 arg11 harg11 x0 x1 x3 x4) := rfl

theorem h1_r_29 : (kernelRun1_A.sl.r_29 (F := Ideal) c i arg2 harg2 arg3 harg3 arg4 harg4 arg5 harg5 arg6 harg6 arg7 harg7 arg8 harg8 arg9 harg9 arg10 harg10 arg11 harg11 x0 x1 x3 x4) = k1_pay24 (kernelRun1_A.sl.r_24 (F := Ideal) c i arg2 harg2 arg3 harg3 arg4 harg4 arg5 harg5 arg6 harg6 arg7 harg7 arg8 harg8 arg9 harg9 arg10 harg10 arg11 harg11 x0 x1 x3 x4) (kernelRun1_A.sl.r_25 (F := Ideal) c i arg2 harg2 arg3 harg3 arg4 harg4 arg5 harg5 arg6 harg6 arg7 harg7 arg8 harg8 arg9 harg9 arg10 harg10 arg11 harg11 x0 x1 x3 x4) := rfl

theorem h1_r_30 : (kernelRun1_A.sl.r_30 (F := Ideal) c i arg2 harg2 arg3 harg3 arg4 harg4 arg5 harg5 arg6 harg6 arg7 harg7 arg8 harg8 arg9 harg9 arg10 harg10 arg11 harg11 x0 x1 x2 x3 x4 x5) = (h1S c i arg2 harg2 arg3 harg3 arg4 harg4 arg5 harg5 arg6 harg6 arg7 harg7 arg8 harg8 arg9 harg9 arg10 harg10 arg11 harg11 x0 x1 x2 x3 x4 x5 (i 1).val).1 := by
  unfold kernelRun1_A.sl.r_30
  rw [show Scf.trips (k1_t8_loop i).lb (k1_t8_loop i).ub (k1_t8_loop i).st = 0 from trips8 i, show Scf.trips (k1_t7_loop i).lb (k1_t7_loop i).ub (k1_t7_loop i).st = (i 1).val from trips7 i]
  rfl

theorem h1_r_27 : (kernelRun1_A.sl.r_27 (F := Ideal) i arg3 harg3 x1) = sc x1 (2 * (i 0).val + 1) (2 * (i 1).val) := read_sc arg3 harg3 x1 _ _ _ _ _ (vec2 (head1 (i 0)) (kblk0 (i 1)))

theorem h1_r_34 : (kernelRun1_A.sl.r_34 (F := Ideal) i arg3 harg3 x1) = sc x1 (2 * (i 0).val + 1) (2 * (i 1).val + 1) := read_sc arg3 harg3 x1 _ _ _ _ _ (vec2 (head1 (i 0)) (kblk1 (i 1)))

theorem h1_r_35 : (kernelRun1_A.sl.r_35 (F := Ideal) c i arg2 harg2 arg3 harg3 arg4 harg4 arg5 harg5 arg6 harg6 arg7 harg7 arg8 harg8 arg9 harg9 arg10 harg10 arg11 harg11 x0 x1 x3 x4) = k1_pay39 (kernelRun1_A.sl.r_20 (F := Ideal) c i arg2 harg2 x0) (k1_pay24 (kernelRun1_A.sl.r_24 (F := Ideal) c i arg2 harg2 arg3 harg3 arg4 harg4 arg5 harg5 arg6 harg6 arg7 harg7 arg8 harg8 arg9 harg9 arg10 harg10 arg11 harg11 x0 x1 x3 x4) (kernelRun1_A.sl.r_25 (F := Ideal) c i arg2 harg2 arg3 harg3 arg4 harg4 arg5 harg5 arg6 harg6 arg7 harg7 arg8 harg8 arg9 harg9 arg10 harg10 arg11 harg11 x0 x1 x3 x4)) (k1_pay35 (kernelRun1_A.sl.v219 (F := Ideal) c arg6 harg6 arg9 x4) (ktl x3 (i 1).val)) (k1_pay36 k1_pay13) (k1_pay37 (kernelRun1_A.sl.v219 (F := Ideal) c arg6 harg6 arg9 x4) (ktl x3 (i 1).val)) (sc x1 (2 * (i 0).val + 1) (2 * (i 1).val)) (sc x1 (2 * (i 0).val + 1) (2 * (i 1).val + 1)) := by
  unfold kernelRun1_A.sl.r_35 kernelRun1_A.sl.r_31 kernelRun1_A.sl.r_32 kernelRun1_A.sl.r_33
  rw [read_kt arg5 harg5 x3 _ (k1_off7_inb i) _ (vec2 (rows (i 1)) rfl), h1_r_27, h1_r_34]
  rfl

theorem h1_r_36 : (kernelRun1_A.sl.r_36 (F := Ideal) c i arg2 harg2 arg3 harg3 arg4 harg4 arg5 harg5 arg6 harg6 arg7 harg7 arg8 harg8 arg9 harg9 arg10 harg10 arg11 harg11 x0 x1 x3 x4 x5) = k1_pay40 (kernelRun1_A.sl.r_20 (F := Ideal) c i arg2 harg2 x0) (k1_pay24 (kernelRun1_A.sl.r_24 (F := Ideal) c i arg2 harg2 arg3 harg3 arg4 harg4 arg5 harg5 arg6 harg6 arg7 harg7 arg8 harg8 arg9 harg9 arg10 harg10 arg11 harg11 x0 x1 x3 x4) (kernelRun1_A.sl.r_25 (F := Ideal) c i arg2 harg2 arg3 harg3 arg4 harg4 arg5 harg5 arg6 harg6 arg7 harg7 arg8 harg8 arg9 harg9 arg10 harg10 arg11 harg11 x0 x1 x3 x4)) (k1_pay35 (kernelRun1_A.sl.v219 (F := Ideal) c arg6 harg6 arg9 x4) (ktl x3 (i 1).val)) (k1_pay36 k1_pay13) (k1_pay37 (kernelRun1_A.sl.v219 (F := Ideal) c arg6 harg6 arg9 x4) (ktl x3 (i 1).val)) (sc x1 (2 * (i 0).val + 1) (2 * (i 1).val)) (sc x1 (2 * (i 0).val + 1) (2 * (i 1).val + 1)) (vtl x5 1 (i 1).val) := by
  unfold kernelRun1_A.sl.r_36 kernelRun1_A.sl.r_31 kernelRun1_A.sl.r_32 kernelRun1_A.sl.r_33
  rw [read_kt arg5 harg5 x3 _ (k1_off7_inb i) _ (vec2 (rows (i 1)) rfl), h1_r_27, h1_r_34, read_vt arg7 harg7 x5 _ (k1_off26_inb i) 1 _ (vec4 _ _ _ (rows (i 1)))]
  rfl

/-- The pieces before the diagonal tile of head 1. -/
def h1B : List (View.Piece (Elt Ideal) S128x256 .f32) := (st_k1_t8 (F := Ideal) Variants.none c none i arg2 harg2 arg3 harg3 arg4 harg4 arg5 harg5 arg6 harg6 arg7 harg7 arg8 harg8 arg9 harg9 arg10 harg10 arg11 harg11 (BitVec.ofNat 32 (i 1).val) k1_pay13 (kernelRun1_A.sl.v209 i) (kernelRun1_A.sl.v219 (F := Ideal) c arg6 harg6 arg9 x4) (kernelRun1_A.sl.r_20 (F := Ideal) c i arg2 harg2 x0) (kernelRun1_A.sl.r_24 (F := Ideal) c i arg2 harg2 arg3 harg3 arg4 harg4 arg5 harg5 arg6 harg6 arg7 harg7 arg8 harg8 arg9 harg9 arg10 harg10 arg11 harg11 x0 x1 x3 x4) (kernelRun1_A.sl.r_25 (F := Ideal) c i arg2 harg2 arg3 harg3 arg4 harg4 arg5 harg5 arg6 harg6 arg7 harg7 arg8 harg8 arg9 harg9 arg10 harg10 arg11 harg11 x0 x1 x3 x4) (kernelRun1_A.sl.r_26 (F := Ideal) c i arg2 harg2 arg3 harg3 arg4 harg4 arg5 harg5 arg6 harg6 arg7 harg7 arg8 harg8 arg9 harg9 arg10 harg10 arg11 harg11 x0 x1 x3 x4) k1_pay53 (kernelRun1_A.sl.v313 i) (harg3.unread x1) (harg4.unread x2) (harg5.unread x3) (harg7.unread x5) (arg10.view.writes (Elt Ideal) arg10.view.junk ((h1S c i arg2 harg2 arg3 harg3 arg4 harg4 arg5 harg5 arg6 harg6 arg7 harg7 arg8 harg8 arg9 harg9 arg10 harg10 arg11 harg11 x0 x1 x2 x3 x4 x5 (Scf.trips (k1_t7_loop i).lb (k1_t7_loop i).ub (k1_t7_loop i).st)).2 ++ ((⟨(Rect.unit (s := S128x256) ![0, 0] S128x256.size inb_S128x256_S128x256_0_0), k1_pay57 (F := Ideal)⟩ : View.Piece (Elt Ideal) S128x256 .f32) :: (kernelRun1_A.sl.HS1_2 (F := Ideal) c i arg2 harg2 arg3 harg3 arg4 harg4 arg5 harg5 arg6 harg6 arg7 harg7 arg8 harg8 arg9 harg9 arg10 harg10 arg11 harg11 x0 x1 x2 x3 x4 x5)))) (h1S c i arg2 harg2 arg3 harg3 arg4 harg4 arg5 harg5 arg6 harg6 arg7 harg7 arg8 harg8 arg9 harg9 arg10 harg10 arg11 harg11 x0 x1 x2 x3 x4 x5 (Scf.trips (k1_t7_loop i).lb (k1_t7_loop i).ub (k1_t7_loop i).st)).1 (Scf.trips (k1_t8_loop i).lb (k1_t8_loop i).ub (k1_t8_loop i).st)).2 ++ ((h1S c i arg2 harg2 arg3 harg3 arg4 harg4 arg5 harg5 arg6 harg6 arg7 harg7 arg8 harg8 arg9 harg9 arg10 harg10 arg11 harg11 x0 x1 x2 x3 x4 x5 (Scf.trips (k1_t7_loop i).lb (k1_t7_loop i).ub (k1_t7_loop i).st)).2 ++ ((⟨(Rect.unit (s := S128x256) ![0, 0] S128x256.size inb_S128x256_S128x256_0_0), k1_pay57 (F := Ideal)⟩ : View.Piece (Elt Ideal) S128x256 .f32) :: (kernelRun1_A.sl.HS1_2 (F := Ideal) c i arg2 harg2 arg3 harg3 arg4 harg4 arg5 harg5 arg6 harg6 arg7 harg7 arg8 harg8 arg9 harg9 arg10 harg10 arg11 harg11 x0 x1 x2 x3 x4 x5)))

theorem h1B_eq : h1B c i arg2 harg2 arg3 harg3 arg4 harg4 arg5 harg5 arg6 harg6 arg7 harg7 arg8 harg8 arg9 harg9 arg10 harg10 arg11 harg11 x0 x1 x2 x3 x4 x5 = (h1S c i arg2 harg2 arg3 harg3 arg4 harg4 arg5 harg5 arg6 harg6 arg7 harg7 arg8 harg8 arg9 harg9 arg10 harg10 arg11 harg11 x0 x1 x2 x3 x4 x5 (i 1).val).2 ++ ((⟨(Rect.unit (s := S128x256) ![0, 0] S128x256.size inb_S128x256_S128x256_0_0), k1_pay57 (F := Ideal)⟩ : View.Piece (Elt Ideal) S128x256 .f32) :: (kernelRun1_A.sl.HS1_2 (F := Ideal) c i arg2 harg2 arg3 harg3 arg4 harg4 arg5 harg5 arg6 harg6 arg7 harg7 arg8 harg8 arg9 harg9 arg10 harg10 arg11 harg11 x0 x1 x2 x3 x4 x5)) := by
  unfold h1B
  rw [show Scf.trips (k1_t8_loop i).lb (k1_t8_loop i).ub (k1_t8_loop i).st = 0 from trips8 i, show Scf.trips (k1_t7_loop i).lb (k1_t7_loop i).ub (k1_t7_loop i).st = (i 1).val from trips7 i]
  rfl

theorem h1B_writes (L : List (View.Piece (Elt Ideal) S128x256 .f32)) : arg10.view.writes (Elt Ideal) arg10.view.junk (L ++ h1B c i arg2 harg2 arg3 harg3 arg4 harg4 arg5 harg5 arg6 harg6 arg7 harg7 arg8 harg8 arg9 harg9 arg10 harg10 arg11 harg11 x0 x1 x2 x3 x4 x5) = arg10.view.writes (Elt Ideal) (h1f c i arg2 harg2 arg3 harg3 arg4 harg4 arg5 harg5 arg6 harg6 arg7 harg7 arg8 harg8 arg9 harg9 arg10 harg10 arg11 harg11 x0 x1 x2 x3 x4 x5 (i 1).val) L := by
  rw [h1B_eq, View.writes_append, View.writes_append]; rfl

theorem h1_v373 : (kernelRun1_A.sl.v373 (F := Ideal) c i arg2 harg2 arg3 harg3 arg4 harg4 arg5 harg5 arg6 harg6 arg7 harg7 arg8 harg8 arg9 harg9 arg10 harg10 arg11 harg11 x0 x1 x2 x3 x4 x5) = View.readAt (Elt Ideal) arg10.view (Rect.unit (s := S128x256) ![0, 0] S64x256.size inb_S128x256_S64x256_0_0).toLoadRect (h1f c i arg2 harg2 arg3 harg3 arg4 harg4 arg5 harg5 arg6 harg6 arg7 harg7 arg8 harg8 arg9 harg9 arg10 harg10 arg11 harg11 x0 x1 x2 x3 x4 x5 (i 1).val) := by
  rw [← View.writes_nil (v := arg10.view) (f := h1f c i arg2 harg2 arg3 harg3 arg4 harg4 arg5 harg5 arg6 harg6 arg7 harg7 arg8 harg8 arg9 harg9 arg10 harg10 arg11 harg11 x0 x1 x2 x3 x4 x5 (i 1).val), ← h1B_writes]; rfl

theorem h1_HS1_1_2 : arg10.view.writes (Elt Ideal) arg10.view.junk (kernelRun1_A.sl.HS1_1_2 (F := Ideal) c i arg2 harg2 arg3 harg3 arg4 harg4 arg5 harg5 arg6 harg6 arg7 harg7 arg8 harg8 arg9 harg9 arg10 harg10 arg11 harg11 x0 x1 x2 x3 x4 x5) = arg10.view.writes (Elt Ideal) (h1f c i arg2 harg2 arg3 harg3 arg4 harg4 arg5 harg5 arg6 harg6 arg7 harg7 arg8 harg8 arg9 harg9 arg10 harg10 arg11 harg11 x0 x1 x2 x3 x4 x5 (i 1).val) [(⟨(Rect.unit (s := S128x256) ![0, 0] S64x256.size inb_S128x256_S64x256_0_0), k1_pay41 (kernelRun1_A.sl.r_36 (F := Ideal) c i arg2 harg2 arg3 harg3 arg4 harg4 arg5 harg5 arg6 harg6 arg7 harg7 arg8 harg8 arg9 harg9 arg10 harg10 arg11 harg11 x0 x1 x3 x4 x5) (kernelRun1_A.sl.v373 (F := Ideal) c i arg2 harg2 arg3 harg3 arg4 harg4 arg5 harg5 arg6 harg6 arg7 harg7 arg8 harg8 arg9 harg9 arg10 harg10 arg11 harg11 x0 x1 x2 x3 x4 x5) (kernelRun1_A.sl.r_38 (F := Ideal) i arg4 harg4 x2)⟩ : View.Piece (Elt Ideal) S128x256 .f32)] := by
  rw [← h1B_writes]; rfl

theorem h1_HS1_2_1 : arg10.view.writes (Elt Ideal) arg10.view.junk (kernelRun1_A.sl.HS1_2_1 (F := Ideal) c i arg2 harg2 arg3 harg3 arg4 harg4 arg5 harg5 arg6 harg6 arg7 harg7 arg8 harg8 arg9 harg9 arg10 harg10 arg11 harg11 x0 x1 x2 x3 x4 x5) = arg10.view.writes (Elt Ideal) (h1f c i arg2 harg2 arg3 harg3 arg4 harg4 arg5 harg5 arg6 harg6 arg7 harg7 arg8 harg8 arg9 harg9 arg10 harg10 arg11 harg11 x0 x1 x2 x3 x4 x5 (i 1).val) [(⟨(Rect.unit (s := S128x256) ![64, 0] S64x256.size inb_S128x256_S64x256_64_0), k1_pay42 (kernelRun1_A.sl.r_36 (F := Ideal) c i arg2 harg2 arg3 harg3 arg4 harg4 arg5 harg5 arg6 harg6 arg7 harg7 arg8 harg8 arg9 harg9 arg10 harg10 arg11 harg11 x0 x1 x3 x4 x5) (kernelRun1_A.sl.v386 (F := Ideal) c i arg2 harg2 arg3 harg3 arg4 harg4 arg5 harg5 arg6 harg6 arg7 harg7 arg8 harg8 arg9 harg9 arg10 harg10 arg11 harg11 x0 x1 x2 x3 x4 x5) (kernelRun1_A.sl.r_39 (F := Ideal) i arg4 harg4 x2)⟩ : View.Piece (Elt Ideal) S128x256 .f32), (⟨(Rect.unit (s := S128x256) ![0, 0] S64x256.size inb_S128x256_S64x256_0_0), k1_pay41 (kernelRun1_A.sl.r_36 (F := Ideal) c i arg2 harg2 arg3 harg3 arg4 harg4 arg5 harg5 arg6 harg6 arg7 harg7 arg8 harg8 arg9 harg9 arg10 harg10 arg11 harg11 x0 x1 x3 x4 x5) (kernelRun1_A.sl.v373 (F := Ideal) c i arg2 harg2 arg3 harg3 arg4 harg4 arg5 harg5 arg6 harg6 arg7 harg7 arg8 harg8 arg9 harg9 arg10 harg10 arg11 harg11 x0 x1 x2 x3 x4 x5) (kernelRun1_A.sl.r_38 (F := Ideal) i arg4 harg4 x2)⟩ : View.Piece (Elt Ideal) S128x256 .f32)] := by
  rw [← h1B_writes]; rfl

/-- One row of head 1's results. -/
theorem h1_value {q : Fin 256} {z w u : ℕ → ℝ} {l : ℕ} (H : Scs (kernelRun1_A.sl.v219 (F := Ideal) c arg6 harg6 arg9 x4) (kernelRun1_A.sl.r_20 (F := Ideal) c i arg2 harg2 x0) q (i 1).val (ktl x3) (fun k => sc x1 (2 * (i 0).val + 1) (2 * k)) (fun k => sc x1 (2 * (i 0).val + 1) (2 * k + 1)) z) (hv' : ∀ t ≤ (i 1).val, Vt (vtl x5 1 t) l (fun x => w (t * 256 + x))) (hu : ∀ m, m < 256 → sc x2 (2 * (i 0).val + 1) m = (u m : EReal)) (hl : l < 64) :
    k1_pay77 (kernelRun1_A.sl.r_28 (F := Ideal) c i arg2 harg2 arg3 harg3 arg4 harg4 arg5 harg5 arg6 harg6 arg7 harg7 arg8 harg8 arg9 harg9 arg10 harg10 arg11 harg11 x0 x1 x3 x4) (kernelRun1_A.sl.r_30 (F := Ideal) c i arg2 harg2 arg3 harg3 arg4 harg4 arg5 harg5 arg6 harg6 arg7 harg7 arg8 harg8 arg9 harg9 arg10 harg10 arg11 harg11 x0 x1 x2 x3 x4 x5) (kernelRun1_A.sl.r_35 (F := Ideal) c i arg2 harg2 arg3 harg3 arg4 harg4 arg5 harg5 arg6 harg6 arg7 harg7 arg8 harg8 arg9 harg9 arg10 harg10 arg11 harg11 x0 x1 x3 x4) (kernelRun1_A.sl.v403 (F := Ideal) c i arg2 harg2 arg3 harg3 arg4 harg4 arg5 harg5 arg6 harg6 arg7 harg7 arg8 harg8 arg9 harg9 arg10 harg10 arg11 harg11 x0 x1 x2 x3 x4 x5) (kernelRun1_A.sl.v404 (F := Ideal) c i arg2 harg2 arg3 harg3 arg4 harg4 arg5 harg5 arg6 harg6 arg7 harg7 arg8 harg8 arg9 harg9 arg10 harg10 arg11 harg11 x0 x1 x2 x3 x4 x5) (ix2 (⟨l, hl⟩ : Fin 64) q) = (attn z w u ((i 1).val * 256 + q.val) : EReal) := by
  have hn : (i 1).val < 128 := (i 1).isLt
  have key := head_value (v := arg10.view) (u := u) H hn hv' hl (h1M c i arg2 harg2 arg3 harg3 arg4 harg4 arg5 harg5 arg6 harg6 arg7 harg7 arg8 harg8 arg9 harg9 arg10 harg10 arg11 harg11 x0 x1 x3 x4) rfl (h1M_succ c i arg2 harg2 arg3 harg3 arg4 harg4 arg5 harg5 arg6 harg6 arg7 harg7 arg8 harg8 arg9 harg9 arg10 harg10 arg11 harg11 x0 x1 x3 x4) (kernelRun1_A.sl.r_24 (F := Ideal) c i arg2 harg2 arg3 harg3 arg4 harg4 arg5 harg5 arg6 harg6 arg7 harg7 arg8 harg8 arg9 harg9 arg10 harg10 arg11 harg11 x0 x1 x3 x4) (kernelRun1_A.sl.r_25 (F := Ideal) c i arg2 harg2 arg3 harg3 arg4 harg4 arg5 harg5 arg6 harg6 arg7 harg7 arg8 harg8 arg9 harg9 arg10 harg10 arg11 harg11 x0 x1 x3 x4) (h1_r_24 c i arg2 harg2 arg3 harg3 arg4 harg4 arg5 harg5 arg6 harg6 arg7 harg7 arg8 harg8 arg9 harg9 arg10 harg10 arg11 harg11 x0 x1 x3 x4) (h1_r_25 c i arg2 harg2 arg3 harg3 arg4 harg4 arg5 harg5 arg6 harg6 arg7 harg7 arg8 harg8 arg9 harg9 arg10 harg10 arg11 harg11 x0 x1 x3 x4) (fun k => (h1S c i arg2 harg2 arg3 harg3 arg4 harg4 arg5 harg5 arg6 harg6 arg7 harg7 arg8 harg8 arg9 harg9 arg10 harg10 arg11 harg11 x0 x1 x2 x3 x4 x5 k).1) rfl
    (fun k hk => by show (h1S c i arg2 harg2 arg3 harg3 arg4 harg4 arg5 harg5 arg6 harg6 arg7 harg7 arg8 harg8 arg9 harg9 arg10 harg10 arg11 harg11 x0 x1 x2 x3 x4 x5 (k + 1)).1 = _; rw [h1S_succ c i arg2 harg2 arg3 harg3 arg4 harg4 arg5 harg5 arg6 harg6 arg7 harg7 arg8 harg8 arg9 harg9 arg10 harg10 arg11 harg11 x0 x1 x2 x3 x4 x5 k hk])
    (h1f c i arg2 harg2 arg3 harg3 arg4 harg4 arg5 harg5 arg6 harg6 arg7 harg7 arg8 harg8 arg9 harg9 arg10 harg10 arg11 harg11 x0 x1 x2 x3 x4 x5) (by
      show Rows arg10.view (arg10.view.writes (Elt Ideal) arg10.view.junk ([(⟨(Rect.unit (s := S128x256) ![0, 0] S128x256.size inb_S128x256_S128x256_0_0), k1_pay57 (F := Ideal)⟩ : View.Piece (Elt Ideal) S128x256 .f32)] ++ (kernelRun1_A.sl.HS1_2 (F := Ideal) c i arg2 harg2 arg3 harg3 arg4 harg4 arg5 harg5 arg6 harg6 arg7 harg7 arg8 harg8 arg9 harg9 arg10 harg10 arg11 harg11 x0 x1 x2 x3 x4 x5))) l q 0 0
      rw [View.writes_append]
      exact rows_zero _ l)
    (fun k hk => by
      rw [← hu (2 * k) (by omega), ← hu (2 * k + 1) (by omega)]
      exact (congrArg (fun S => arg10.view.writes (Elt Ideal) (arg10.view.writes (Elt Ideal) arg10.view.junk ((⟨(Rect.unit (s := S128x256) ![0, 0] S128x256.size inb_S128x256_S128x256_0_0), k1_pay57 (F := Ideal)⟩ : View.Piece (Elt Ideal) S128x256 .f32) :: (kernelRun1_A.sl.HS1_2 (F := Ideal) c i arg2 harg2 arg3 harg3 arg4 harg4 arg5 harg5 arg6 harg6 arg7 harg7 arg8 harg8 arg9 harg9 arg10 harg10 arg11 harg11 x0 x1 x2 x3 x4 x5))) S.2) (h1S_succ c i arg2 harg2 arg3 harg3 arg4 harg4 arg5 harg5 arg6 harg6 arg7 harg7 arg8 harg8 arg9 harg9 arg10 harg10 arg11 harg11 x0 x1 x2 x3 x4 x5 k hk)).trans (View.writes_append _ _ _ _))
    (kernelRun1_A.sl.r_36 (F := Ideal) c i arg2 harg2 arg3 harg3 arg4 harg4 arg5 harg5 arg6 harg6 arg7 harg7 arg8 harg8 arg9 harg9 arg10 harg10 arg11 harg11 x0 x1 x3 x4 x5) (h1_r_36 c i arg2 harg2 arg3 harg3 arg4 harg4 arg5 harg5 arg6 harg6 arg7 harg7 arg8 harg8 arg9 harg9 arg10 harg10 arg11 harg11 x0 x1 x3 x4 x5) (arg10.view.writes (Elt Ideal) arg10.view.junk (kernelRun1_A.sl.HS1_1_2 (F := Ideal) c i arg2 harg2 arg3 harg3 arg4 harg4 arg5 harg5 arg6 harg6 arg7 harg7 arg8 harg8 arg9 harg9 arg10 harg10 arg11 harg11 x0 x1 x2 x3 x4 x5)) (arg10.view.writes (Elt Ideal) arg10.view.junk (kernelRun1_A.sl.HS1_2_1 (F := Ideal) c i arg2 harg2 arg3 harg3 arg4 harg4 arg5 harg5 arg6 harg6 arg7 harg7 arg8 harg8 arg9 harg9 arg10 harg10 arg11 harg11 x0 x1 x2 x3 x4 x5))
    (by rw [h1_HS1_1_2, h1_v373, h1_r_38, hu (2 * (i 1).val) (by omega)])
    (by rw [h1_HS1_2_1, h1_v373, h1_r_38, h1_r_39, hu (2 * (i 1).val) (by omega), hu (2 * (i 1).val + 1) (by omega)]; rfl)
  rw [h1_r_28, h1_r_30, h1_r_35]
  exact key

end Body

end Cert.KProof.A
-- ==== Proof.AOut.lean ====
/-
  The attention kernel's output block: at tile `n` of pair `p`, row `q` and column `64 hh + l` hold the attention of query
  `256 n + q` in head `2 p + hh`.
-/
module

public import proofs.«01_k».proof.Proof.ABody

@[expose] public section

set_option maxRecDepth 16384

noncomputable section

namespace Cert.KProof.A

open Cert.KernelIdeal Cert.KernelIdeal.Gen Idealize.ShloMosaic Idealize.ShloMosaic.TcCoe Idealize.SL.Sem

/-- What the blocks hold at pair `p`, tile `n`: the scales, the pair's key codes, the tile's query codes transposed, and the pair's value codes split by halves of the tiles. -/
structure Blk (X K V : Arr) (p n : ℕ) (x0 x1 x2 : Vec Ideal S32x256 .f32) (x3 : Vec Ideal S32768x128 .fp8e4m3) (x4 : Vec Ideal S128x256 .fp8e4m3) (x5 : Vec Ideal S2x2x64x32768 .fp8e4m3) : Prop where
  qs : ∀ h m, h < 32 → m < 256 → sc x0 h m = (scl X m h : EReal)
  ks : ∀ h m, h < 32 → m < 256 → sc x1 h m = (scl K m h : EReal)
  vs : ∀ h m, h < 32 → m < 256 → sc x2 h m = (scl V m h : EReal)
  kc : ∀ t < 128, ∀ (r : Fin 256) (d : Fin 128), ktl x3 t (ix2 r d) = (cd K (t * 256 + r.val) (p * 128 + d.val) : EReal)
  qt : ∀ (d : Fin 128) (q : Fin 256), x4 (ix2 d q) = (cd X (n * 256 + q.val) (p * 128 + d.val) : EReal)
  vb : ∀ t < 128, ∀ hh b : Fin 2, ∀ l : Fin 64, ∀ x : Fin 256, vtl x5 hh t (ix4 0 b l x) = ((if x.val / 128 = b.val then cd V (t * 256 + x.val) ((2 * p + hh.val) * 64 + l.val) else 0 : ℝ) : EReal)

section Blk

variable {X K V : Arr} {p n : ℕ} {x0 x1 x2 : Vec Ideal S32x256 .f32} {x3 : Vec Ideal S32768x128 .fp8e4m3} {x4 : Vec Ideal S128x256 .fp8e4m3} {x5 : Vec Ideal S2x2x64x32768 .fp8e4m3}

/-- A sum over the pair's 128 columns of which one head's 64 count. -/
theorem sum_head (hh : ℕ) (h2 : hh < 2) (f : ℕ → ℝ) : ∑ d ∈ Finset.range 128, (if d / 64 = hh then f d else 0) = ∑ l ∈ Finset.range 64, f (hh * 64 + l) := by
  rw [← sum_tiles 64 (fun d => if d / 64 = hh then f d else 0) 2, Finset.sum_range_succ, Finset.sum_range_one]
  rcases (by omega : hh = 0 ∨ hh = 1) with rfl | rfl
  · rw [Finset.sum_congr rfl fun x hx => if_pos (show (0 * 64 + x) / 64 = 0 by have := Finset.mem_range.mp hx; omega),
      Finset.sum_eq_zero (s := Finset.range 64) fun x hx => if_neg (show ¬ (1 * 64 + x) / 64 = 0 by omega), add_zero]
  · rw [Finset.sum_congr rfl fun x hx => if_neg (show ¬ (0 * 64 + x) / 64 = 1 by have := Finset.mem_range.mp hx; omega),
      Finset.sum_const_zero, zero_add, Finset.sum_congr rfl fun x hx => if_pos (show (1 * 64 + x) / 64 = 1 by have := Finset.mem_range.mp hx; omega)]

/-- The tiles' scores are the query's. -/
theorem Blk.scs (B : Blk X K V p n x0 x1 x2 x3 x4 x5) (hp : p < 16) (hn : n < 128) (hh : ℕ) (h2 : hh < 2) (v15 : Vec Ideal S128x256 .fp8e4m3) (q : Fin 256)
    (h15 : ∀ d : Fin 128, v15 (ix2 d q) = if d.val / 64 = hh then x4 (ix2 d q) else (0 : EReal)) :
    Scs v15 (k1_pay16 (sc x0 (2 * p + hh) (2 * n)) (sc x0 (2 * p + hh) (2 * n + 1))) q n (ktl x3) (fun k => sc x1 (2 * p + hh) (2 * k)) (fun k => sc x1 (2 * p + hh) (2 * k + 1)) (zz X K (2 * p + hh) (n * 256 + q.val)) := by
  intro t ht
  have hq := q.isLt
  refine ⟨fun r => ∑ l ∈ Finset.range 64, cd K (t * 256 + r) ((2 * p + hh) * 64 + l) * cd X (n * 256 + q.val) ((2 * p + hh) * 64 + l),
    (if q.val < 128 then scl X (2 * n) (2 * p + hh) else scl X (2 * n + 1) (2 * p + hh)) * (1 / 8) * (1 / 50), scl K (2 * t) (2 * p + hh), scl K (2 * t + 1) (2 * p + hh), ?_, ?_, ?_, ?_, ?_, scl_pos .., scl_pos .., ?_⟩
  · intro r
    have e : ∀ d : Fin 128, (ktl x3 t (ix2 r d) : EReal) * v15 (ix2 d q) = (((fun d => if d / 64 = hh then cd K (t * 256 + r.val) (p * 128 + d) * cd X (n * 256 + q.val) (p * 128 + d) else 0) d.val : ℝ) : EReal) := fun d => by
      rw [h15 d, B.kc t (by omega) r d, B.qt d q]
      by_cases h : d.val / 64 = hh
      · simp only [if_pos h]; exact (EReal.coe_mul _ _).symm
      · simp only [if_neg h]; rw [mul_zero]; rfl
    rw [Finset.sum_congr rfl fun d _ => e d, coe_sum 128 (fun d => if d / 64 = hh then cd K (t * 256 + r.val) (p * 128 + d) * cd X (n * 256 + q.val) (p * 128 + d) else 0), sum_head hh h2]
    refine congrArg _ (Finset.sum_congr rfl fun l _ => ?_)
    rw [show p * 128 + (hh * 64 + l) = (2 * p + hh) * 64 + l by omega]
  · intro g
    rw [B.qs _ _ (by omega) (by omega), B.qs _ _ (by omega) (by omega), pay16_at]
  · exact B.ks _ _ (by omega) (by omega)
  · exact B.ks _ _ (by omega) (by omega)
  · have a1 := scl_pos X (2 * n) (2 * p + hh)
    have a2 := scl_pos X (2 * n + 1) (2 * p + hh)
    split <;> positivity
  · intro r hr
    show zz X K (2 * p + hh) (n * 256 + q.val) (t * 256 + r) = _
    unfold zz
    have e1 : scl X ((n * 256 + q.val) / 128) (2 * p + hh) = if q.val < 128 then scl X (2 * n) (2 * p + hh) else scl X (2 * n + 1) (2 * p + hh) := by
      split
      · rw [show (n * 256 + q.val) / 128 = 2 * n by omega]
      · rw [show (n * 256 + q.val) / 128 = 2 * n + 1 by omega]
    have e2 : scl K ((t * 256 + r) / 128) (2 * p + hh) = if r < 128 then scl K (2 * t) (2 * p + hh) else scl K (2 * t + 1) (2 * p + hh) := by
      split
      · rw [show (t * 256 + r) / 128 = 2 * t by omega]
      · rw [show (t * 256 + r) / 128 = 2 * t + 1 by omega]
    rw [e1, e2]

theorem Blk.vts (B : Blk X K V p n x0 x1 x2 x3 x4 x5) (hn : n < 128) (hh : Fin 2) (l : ℕ) : ∀ t ≤ n, Vt (vtl x5 hh t) l (fun x => cd V (t * 256 + x) ((2 * p + hh.val) * 64 + l)) := by
  intro t ht b h x
  exact B.vb t (by omega) hh b ⟨l, h⟩ x

end Blk

section Body

variable (c : Dev nD) (i : grid1.Coords) (arg2 : Memref sig .tc .smem S32x256 .f32) (harg2 : arg2.IsWhole) (arg3 : Memref sig .tc .smem S32x256 .f32) (harg3 : arg3.IsWhole) (arg4 : Memref sig .tc .smem S32x256 .f32) (harg4 : arg4.IsWhole) (arg5 : Memref sig .tc .vmem S32768x128 .fp8e4m3) (harg5 : arg5.IsWhole) (arg6 : Memref sig .tc .vmem S128x256 .fp8e4m3) (harg6 : arg6.IsWhole) (arg7 : Memref sig .tc .vmem S2x2x64x32768 .fp8e4m3) (harg7 : arg7.IsWhole) (arg8 : Memref sig .tc .vmem S256x128 .bf16) (harg8 : arg8.IsWhole) (arg9 : Memref sig .tc .vmem S128x256 .fp8e4m3) (harg9 : arg9.IsWhole) (arg10 : Memref sig .tc .vmem S128x256 .f32) (harg10 : arg10.IsWhole) (arg11 : Memref sig .tc .vmem S128x256 .f32) (harg11 : arg11.IsWhole)
variable (x0 x1 x2 : Vec Ideal S32x256 .f32) (x3 : Vec Ideal S32768x128 .fp8e4m3) (x4 : Vec Ideal S128x256 .fp8e4m3) (x5 : Vec Ideal S2x2x64x32768 .fp8e4m3)

theorem whole_idx (y : Fin 128) (q : Fin 256) : (Rect.unit (s := S128x256) ![0, 0] S128x256.size inb_S128x256_S128x256_0_0).toLoadRect.idx (ix2 y q) = ix2 y q := by
  funext a
  apply Fin.ext
  match a with
  | ⟨0, _⟩ => show 0 + 1 * y.val = y.val; omega
  | ⟨1, _⟩ => show 0 + 1 * q.val = q.val; omega

theorem rows64_idx (o : ℕ) (inb) (y : Fin 64) (q : Fin 256) (h : o + y.val < 128) : (Rect.unit (s := S128x256) ![o, 0] S64x256.size inb).toLoadRect.idx (ix2 y q) = ix2 (⟨o + y.val, h⟩ : Fin 128) q := by
  funext a
  apply Fin.ext
  match a with
  | ⟨0, _⟩ => show o + 1 * y.val = o + y.val; omega
  | ⟨1, _⟩ => show 0 + 1 * q.val = q.val; omega

theorem pay14_at (d : Fin 128) (q : Fin 256) : k1_pay14 (F := Ideal) (ix2 d q) = (0 : EReal) := by
  pointwise [k1_pay14]
  simp [Ideal.ofBits, Ideal.e4m3fn]

theorem pay15_at (v : Vec Ideal S64x256 .fp8e4m3) (d : Fin 64) (q : Fin 256) : k1_pay15 v (ix2 d q) = (v (ix2 d q) : EReal) := by
  pointwise [k1_pay15]

/-- The query codes of the pair's first head: the other head's rows are zero. -/
theorem v15_at (q : Fin 256) (d : Fin 128) : kernelRun1_A.sl.v15 (F := Ideal) c arg6 harg6 arg9 x4 (ix2 d q) = if d.val / 64 = 0 then x4 (ix2 d q) else (0 : EReal) := by
  show arg9.view.read (Elt Ideal) (arg9.view.writes (Elt Ideal) arg9.view.junk (kernelRun1_A.sl.HS0_2 (F := Ideal) c arg6 harg6 x4)) ((Rect.unit (s := S128x256) ![0, 0] S128x256.size inb_S128x256_S128x256_0_0).toLoadRect.idx (ix2 d q)) = _
  rw [whole_idx]
  unfold kernelRun1_A.sl.HS0_2
  by_cases h : d.val < 64
  · rw [if_pos (by omega), View.read_writes_cons_rows_of_mem _ _ inb_S128x256_S64x256_0_0 _ _ _ (ix2 (⟨d.val, h⟩ : Fin 64) q) (o := 0) rfl (by show d.val = 0 + d.val; omega) rfl]
    refine (pay15_at _ _ _).trans ?_
    rw [Memref.IsWhole.readAt_unread, rows64_idx 0 _ _ _ (by show 0 + d.val < 128; omega)]
    exact congrArg (fun y => x4 (ix2 y q)) (Fin.ext (by show 0 + d.val = d.val; omega))
  · rw [if_neg (by omega), View.read_writes_cons_rows_of_not_mem _ _ inb_S128x256_S64x256_0_0 _ _ _ (o := 0) (W := 64) rfl rfl (.inr (by show 0 + 64 ≤ d.val; omega)),
      View.read_writes_cons_rows_of_mem _ _ inb_S128x256_S128x256_0_0 _ _ _ (ix2 d q) (o := 0) rfl (by show d.val = 0 + d.val; omega) rfl]
    exact pay14_at d q

/-- The query codes of the pair's second head. -/
theorem v219_at (q : Fin 256) (d : Fin 128) : kernelRun1_A.sl.v219 (F := Ideal) c arg6 harg6 arg9 x4 (ix2 d q) = if d.val / 64 = 1 then x4 (ix2 d q) else (0 : EReal) := by
  show arg9.view.read (Elt Ideal) (arg9.view.writes (Elt Ideal) arg9.view.junk (kernelRun1_A.sl.HS0_4 (F := Ideal) c arg6 harg6 x4)) ((Rect.unit (s := S128x256) ![0, 0] S128x256.size inb_S128x256_S128x256_0_0).toLoadRect.idx (ix2 d q)) = _
  rw [whole_idx]
  unfold kernelRun1_A.sl.HS0_4
  have hd := d.isLt
  by_cases h : 64 ≤ d.val
  · rw [if_pos (by omega), View.read_writes_cons_rows_of_mem _ _ inb_S128x256_S64x256_64_0 _ _ _ (ix2 (⟨d.val - 64, by omega⟩ : Fin 64) q) (o := 64) rfl (by show d.val = 64 + (d.val - 64); omega) rfl]
    refine (pay15_at _ _ _).trans ?_
    rw [Memref.IsWhole.readAt_unread, rows64_idx 64 _ _ _ (by show 64 + (d.val - 64) < 128; omega)]
    exact congrArg (fun y => x4 (ix2 y q)) (Fin.ext (by show 64 + (d.val - 64) = d.val; omega))
  · rw [if_neg (by omega), View.read_writes_cons_rows_of_not_mem _ _ inb_S128x256_S64x256_64_0 _ _ _ (o := 64) (W := 64) rfl rfl (.inl (by show d.val < 64; omega)),
      View.read_writes_cons_rows_of_mem _ _ inb_S128x256_S128x256_0_0 _ _ _ (ix2 d q) (o := 0) rfl (by show d.val = 0 + d.val; omega) rfl]
    exact pay14_at d q

theorem pay78_at (v : Vec Ideal S128x256 .f32) (q : Fin 256) (d : Fin 128) : k1_pay78 v (ix2 q d) = (v (ix2 d q) : EReal) := by
  pointwise [k1_pay78]

/-- The output block. -/
theorem out_at (X K V : Arr) (B : Blk X K V (i 0).val (i 1).val x0 x1 x2 x3 x4 x5) (q : Fin 256) (d : Fin 128) :
    out1_A_6 (F := Ideal) c i arg2 harg2 arg3 harg3 arg4 harg4 arg5 harg5 arg6 harg6 arg7 harg7 arg8 harg8 arg9 harg9 arg10 harg10 arg11 harg11 x0 x1 x2 x3 x4 x5 (ix2 q d) = (yy X K V ((i 1).val * 256 + q.val) ((i 0).val * 128 + d.val) : EReal) := by
  have hp : (i 0).val < 16 := (i 0).isLt
  have hn : (i 1).val < 128 := (i 1).isLt
  have hd := d.isLt
  have e : out1_A_6 (F := Ideal) c i arg2 harg2 arg3 harg3 arg4 harg4 arg5 harg5 arg6 harg6 arg7 harg7 arg8 harg8 arg9 harg9 arg10 harg10 arg11 harg11 x0 x1 x2 x3 x4 x5 = k1_pay78 (kernelRun1_A.sl.v412 (F := Ideal) c i arg2 harg2 arg3 harg3 arg4 harg4 arg5 harg5 arg6 harg6 arg7 harg7 arg8 harg8 arg9 harg9 arg10 harg10 arg11 harg11 x0 x1 x2 x3 x4 x5) := by
    unfold out1_A_6 kernelRun1_A; dsimp only
    unfold kernelRun1_A.sl.r_40
    rw [View.read_writes_junk_eq_canon]
    exact View.canon_cons_unit_zero (S := S256x128) (by decide) _ _ _
  rw [e, pay78_at]
  show arg11.view.read (Elt Ideal) (arg11.view.writes (Elt Ideal) arg11.view.junk (kernelRun1_A.sl.HS2_2 (F := Ideal) c i arg2 harg2 arg3 harg3 arg4 harg4 arg5 harg5 arg6 harg6 arg7 harg7 arg8 harg8 arg9 harg9 arg10 harg10 arg11 harg11 x0 x1 x2 x3 x4 x5)) ((Rect.unit (s := S128x256) ![0, 0] S128x256.size inb_S128x256_S128x256_0_0).toLoadRect.idx (ix2 d q)) = _
  rw [whole_idx]
  unfold kernelRun1_A.sl.HS2_2
  by_cases h : 64 ≤ d.val
  · rw [View.read_writes_cons_rows_of_mem _ _ inb_S128x256_S64x256_64_0 _ _ _ (ix2 (⟨d.val - 64, by omega⟩ : Fin 64) q) (o := 64) rfl (by show d.val = 64 + (d.val - 64); omega) rfl]
    have S := B.scs hp hn 1 (by decide) _ q (v219_at c arg6 harg6 arg9 x4 q)
    rw [← h1_r_20 c i arg2 harg2 x0] at S
    refine (h1_value c i arg2 harg2 arg3 harg3 arg4 harg4 arg5 harg5 arg6 harg6 arg7 harg7 arg8 harg8 arg9 harg9 arg10 harg10 arg11 harg11 x0 x1 x2 x3 x4 x5 (w := fun k => cd V k ((2 * (i 0).val + (1 : Fin 2).val) * 64 + (d.val - 64))) (u := fun b => scl V b (2 * (i 0).val + 1)) S (B.vts hn 1 (d.val - 64)) (fun m hm => B.vs _ _ (by omega) hm) (by omega)).trans ?_
    unfold yy
    rw [show ((i 0).val * 128 + d.val) / 64 = 2 * (i 0).val + 1 by omega, show (i 0).val * 128 + d.val = (2 * (i 0).val + (1 : Fin 2).val) * 64 + (d.val - 64) by show _ = (2 * (i 0).val + 1) * 64 + (d.val - 64); omega]
  · rw [View.read_writes_cons_rows_of_not_mem _ _ inb_S128x256_S64x256_64_0 _ _ _ (o := 64) (W := 64) rfl rfl (.inl (by show d.val < 64; omega)),
      View.read_writes_cons_rows_of_mem _ _ inb_S128x256_S64x256_0_0 _ _ _ (ix2 (⟨d.val, by omega⟩ : Fin 64) q) (o := 0) rfl (by show d.val = 0 + d.val; omega) rfl]
    have S := B.scs hp hn 0 (by decide) _ q (v15_at c arg6 harg6 arg9 x4 q)
    rw [add_zero, ← h0_r_2 c i arg2 harg2 x0] at S
    refine (h0_value c i arg2 harg2 arg3 harg3 arg4 harg4 arg5 harg5 arg6 harg6 arg7 harg7 arg8 harg8 arg9 harg9 arg10 harg10 arg11 harg11 x0 x1 x2 x3 x4 x5 (w := fun k => cd V k ((2 * (i 0).val + (0 : Fin 2).val) * 64 + d.val)) (u := fun b => scl V b (2 * (i 0).val)) S (B.vts hn 0 d.val) (fun m hm => B.vs _ _ (by omega) hm) (by omega)).trans ?_
    unfold yy
    rw [show ((i 0).val * 128 + d.val) / 64 = 2 * (i 0).val by omega, show (i 0).val * 128 + d.val = (2 * (i 0).val + (0 : Fin 2).val) * 64 + d.val by show _ = (2 * (i 0).val + 0) * 64 + d.val; omega]

end Body

end Cert.KProof.A
-- ==== Proof.QBlock.lean ====
/-
  One block of the quantiser, read at an index: for 128 tokens of all heads, the exponent per head, the scale, the codes.
-/
module

public import proofs.«01_k».proof.Proof.Spec
public import proofs.«01_k».proof.Proof.Gen.KernelIdeal.Frame
public import Idealize.ShloMosaic.Lib.Pointwise
public import Idealize.ShloMosaic.Lib.WholeRead
public import Idealize.ShloMosaic.Lib.WritesUnit

@[expose] public section

set_option maxRecDepth 16384

noncomputable section

namespace Cert.KProof.Q

open Cert.KernelIdeal Cert.KernelIdeal.Gen Idealize.ShloMosaic Idealize.ShloMosaic.TcCoe Idealize.SL.Sem

/-- The largest magnitude per head of a block of 128 tokens, as the kernel takes it: the columns' maxima, then each head's lanes. -/
def qamax (tb : FVec Ideal S128x2048 .f32) : FVec Ideal S32x1 .f32 :=
  shapeCast S32x1 (multiReduction .maximumf [1] S32 (select k0_pay6 (broadcastTo S32x2048 (shapeCast S1x2048 (shapeCast S1x2048 (multiReduction .maximumf [0] S2048 (absf tb) 0xFF800000#32 reduces_S128x2048_S2048 (.inl rfl) rfl) shapeCasts_S2048_S1x2048) shapeCasts_S1x2048_S1x2048) broadcasts_S1x2048_S32x2048) (broadcast S32x2048 (Scalar.ofBits .f32 0x00000000#32))) 0xFF800000#32 reduces_S32x2048_S32 (.inl rfl) rfl) shapeCasts_S32_S32x1

/-- The exponent per head from its largest magnitude. -/
def qexp (a : FVec Ideal S32x1 .f32) : IVec S32x1 32 :=
  select (cmpf .oeq a (broadcast S32x1 (Scalar.ofBits .f32 0x00000000#32))) (broadcast S32x1 0#32)
    (fptosi 32 (addf (floor (divf (log (mulf a (broadcast S32x1 (Scalar.ofBits .f32 0x3B124925#32)))) (broadcast S32x1 (Scalar.log (Scalar.ofBits .f32 0x40000000#32 : Ideal .f32))))) (broadcast S32x1 (Scalar.ofBits .f32 0x3F800000#32))))

/-- The scale per head. -/
def qscale (e : IVec S32x1 32) : FVec Ideal S32x1 .f32 := exp2 (sitofp .f32 e)

/-- The codes of a block of 128 tokens under the heads' exponents. -/
def qcode (tb : FVec Ideal S128x2048 .f32) (e : IVec S32x1 32) : FVec Ideal S128x2048 .f32 :=
  minimumf (broadcast S128x2048 (Scalar.ofBits .f32 0x43E00000#32)) (maximumf (broadcast S128x2048 (Scalar.ofBits .f32 0xC3E00000#32))
    (mulf tb (broadcastTo S128x2048 (shapeCast S1x2048 (multiReduction .maximumf [0] S2048 (select k0_pay6 (broadcastTo S32x2048 (shapeCast S32x1 (exp2 (sitofp .f32 (subi (broadcast S32x1 0#32) e))) shapeCasts_S32x1_S32x1) broadcasts_S32x1_S32x2048) (broadcast S32x2048 (Scalar.ofBits .f32 0x00000000#32))) 0xFF800000#32 reduces_S32x2048_S2048 (.inl rfl) rfl) shapeCasts_S2048_S1x2048) broadcasts_S1x2048_S128x2048)))

/-- The two blocks of a step, tokens 0 to 127 and 128 to 255. -/
def blk0 (x : Vec Ideal S256x2048 .bf16) : FVec Ideal S128x2048 .f32 := extractStridedSlice S128x2048 ![0, 0] (extf .f32 (shapeCast S256x2048 x shapeCasts_S256x2048_S256x2048) bitsLt_bf16_f32) slices_S256x2048_o0_0_S128x2048
def blk1 (x : Vec Ideal S256x2048 .bf16) : FVec Ideal S128x2048 .f32 := extractStridedSlice S128x2048 ![128, 0] (extf .f32 (shapeCast S256x2048 x shapeCasts_S256x2048_S256x2048) bitsLt_bf16_f32) slices_S256x2048_o128_0_S128x2048

/-- The step's codes: both blocks'. -/
def qcodes (x : Vec Ideal S256x2048 .bf16) : FVec Ideal S256x2048 .f32 :=
  concatenate S256x2048 0 [⟨S128x2048, qcode (blk0 x) (qexp (qamax (blk0 x)))⟩, ⟨S128x2048, qcode (blk1 x) (qexp (qamax (blk1 x)))⟩] concatenates_S128x2048_S128x2048_S256x2048_d0

/-- The step's scales: both blocks'. -/
def qscales (x : Vec Ideal S256x2048 .bf16) : FVec Ideal S32x2 .f32 :=
  concatenate S32x2 1 [⟨S32x1, qscale (qexp (qamax (blk0 x)))⟩, ⟨S32x1, qscale (qexp (qamax (blk1 x)))⟩] concatenates_S32x1_S32x1_S32x2_d1

theorem ld_whole (x : Vec Ideal S256x2048 .bf16) : View.ld x r0_0 = x := View.ld_unit_zero (S := S256x2048) (by decide) _ x

theorem out0_3_eq (x0 x1 x2 : Vec Ideal S256x2048 .bf16) : out0_3 x0 x1 x2 = truncf .fp8e4m3 (qcodes x0) bitsLt_fp8e4m3_f32 := by
  unfold_out out0_3
  rw [View.canon_cons_unit_zero (S := S256x2048) (by decide), ld_whole]
  rfl
theorem out0_4_eq (x0 x1 x2 : Vec Ideal S256x2048 .bf16) : out0_4 x0 x1 x2 = shapeCast S1x32x2 (qscales x0) shapeCasts_S32x2_S1x32x2 := by
  unfold_out out0_4
  rw [View.canon_cons_unit_zero (S := S1x32x2) (by decide), ld_whole]
  rfl
theorem out0_5_eq (x0 x1 x2 : Vec Ideal S256x2048 .bf16) : out0_5 x0 x1 x2 = truncf .fp8e4m3 (qcodes x1) bitsLt_fp8e4m3_f32 := by
  unfold_out out0_5
  rw [View.canon_cons_unit_zero (S := S256x2048) (by decide), ld_whole]
  rfl
theorem out0_6_eq (x0 x1 x2 : Vec Ideal S256x2048 .bf16) : out0_6 x0 x1 x2 = shapeCast S1x32x2 (qscales x1) shapeCasts_S32x2_S1x32x2 := by
  unfold_out out0_6
  rw [View.canon_cons_unit_zero (S := S1x32x2) (by decide), ld_whole]
  rfl
theorem out0_7_eq (x0 x1 x2 : Vec Ideal S256x2048 .bf16) : out0_7 x0 x1 x2 = truncf .fp8e4m3 (qcodes x2) bitsLt_fp8e4m3_f32 := by
  unfold_out out0_7
  rw [View.canon_cons_unit_zero (S := S256x2048) (by decide), ld_whole]
  rfl
theorem out0_8_eq (x0 x1 x2 : Vec Ideal S256x2048 .bf16) : out0_8 x0 x1 x2 = shapeCast S1x32x2 (qscales x2) shapeCasts_S32x2_S1x32x2 := by
  unfold_out out0_8
  rw [View.canon_cons_unit_zero (S := S1x32x2) (by decide), ld_whole]
  rfl
theorem out0_9_eq (x0 x1 x2 : Vec Ideal S256x2048 .bf16) : out0_9 x0 x1 x2 = truncf .fp8e4m3 (transpose S2048x256 [1, 0] (qcodes x0) transposes_S256x2048_p1_0_S2048x256) bitsLt_fp8e4m3_f32 := by
  unfold_out out0_9
  rw [View.canon_cons_unit_zero (S := S2048x256) (by decide), ld_whole]
  rfl
theorem pay58_eq (x0 x1 x2 : Vec Ideal S256x2048 .bf16) : k0_pay58 x0 x1 x2 = qcodes x2 := by
  unfold k0_pay58 k0_pay57 k0_pay56 k0_pay44
  rw [ld_whole]
  rfl

theorem col_div : ∀ c : Fin 2048, Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 c.val) 64#32) 0#32))
        (IntOp.subi (IntOp.divsi ArithUnit.vector (BitVec.ofNat 32 c.val) 64#32) 1#32)
        (IntOp.divsi ArithUnit.vector (BitVec.ofNat 32 c.val) 64#32) = BitVec.ofNat 32 (c.val / 64) := by decide +kernel

/-- The head mask holds where the column's head is the row's. -/
theorem sel_eq (h : Fin 32) (c : Fin 2048) : k0_pay6 (ix2 h c) = if c.val / 64 = h.val then 1#1 else 0#1 := by
  pointwise [k0_pay6]
  rw [col_div c]
  have : (BitVec.ofNat 32 (c.val / 64) == BitVec.ofNat 32 h.val) = decide (c.val / 64 = h.val) := by
    have e : ∀ (a : Fin 32) (b : Fin 32), (BitVec.ofNat 32 a.val == BitVec.ofNat 32 b.val) = decide (a.val = b.val) := by decide +kernel
    exact e ⟨c.val / 64, by omega⟩ h
  show BitVec.ofBool (BitVec.ofNat 32 (c.val / 64) == BitVec.ofNat 32 h.val) = _
  rw [this]
  by_cases e : c.val / 64 = h.val
  · rw [if_pos e, decide_eq_true e]; rfl
  · rw [if_neg e, decide_eq_false e]; rfl

/-- A maximum over heads of a nonnegative number at one head and zero at the others is that number. -/
theorem fold_sel (h : Fin 32) (m : Fin 32 → BitVec 1) (f : Fin 32 → EReal) (hm : ∀ x, m x = if h = x then 1#1 else 0#1) (hf : 0 ≤ f h) :
    Finset.fold max (⊥ : EReal) (fun x => Scalar.select (m x) (f x) 0) Finset.univ = f h := by
  refine eq_of_forall_ge_iff fun B => ?_
  rw [Finset.fold_max_le]
  constructor
  · intro H
    have := H.2 h (Finset.mem_univ _)
    rw [hm, if_pos rfl] at this
    exact this
  · intro H
    refine ⟨bot_le, fun x _ => ?_⟩
    rw [hm]
    by_cases e : h = x
    · subst e; rw [if_pos rfl]; exact H
    · rw [if_neg e]; exact hf.trans H

/-- What bounds a head's largest magnitude. -/
theorem qamax_le (tb : FVec Ideal S128x2048 .f32) (h : Fin 32) (B : EReal) : qamax tb (ix2 h 0) ≤ B ↔
    ∀ (r : Fin 128) (l : Fin 64), max (tb (ix2 r ⟨h.val * 64 + l.val, by omega⟩) : EReal) (-tb (ix2 r ⟨h.val * 64 + l.val, by omega⟩) : EReal) ≤ B := by
  pointwise [qamax]
  rw [ofBits_bot, Finset.fold_max_le]
  constructor
  · intro H r l
    have := H.2 ⟨h.val * 64 + l.val, by omega⟩ (Finset.mem_univ _)
    rw [sel_eq, if_pos (by show (h.val * 64 + l.val) / 64 = h.val; omega)] at this
    exact ((Finset.fold_max_le B).mp (show Finset.fold max (⊥ : EReal) (fun x_1 => FloatOps.absf (F := Ideal) (tb (ix2 x_1 _))) Finset.univ ≤ B from this)).2 r (Finset.mem_univ _)
  · intro H
    refine ⟨bot_le, fun x _ => ?_⟩
    rw [sel_eq]
    by_cases e : x.val / 64 = h.val
    · rw [if_pos e]
      show Finset.fold max (⊥ : EReal) (fun x_1 => FloatOps.absf (F := Ideal) (tb (ix2 x_1 x))) Finset.univ ≤ B
      refine (Finset.fold_max_le B).mpr ⟨bot_le, fun r _ => ?_⟩
      have := H r ⟨x.val % 64, Nat.mod_lt _ (by norm_num)⟩
      have ex : (⟨h.val * 64 + x.val % 64, by omega⟩ : Fin 2048) = x := Fin.ext (by show h.val * 64 + x.val % 64 = x.val; omega)
      simp only [ex] at this
      exact this
    · rw [if_neg e]
      exact (abs_nonneg' _).trans (H 0 0)

theorem qexp_at (a : FVec Ideal S32x1 .f32) (h : Fin 32) : qexp a (ix2 h 0) = expo (a (ix2 h 0)) := by
  pointwise [qexp]
  rfl

theorem qcode_at (tb : FVec Ideal S128x2048 .f32) (e : IVec S32x1 32) (r : Fin 128) (c : Fin 2048) :
    qcode tb e (ix2 r c) = code (tb (ix2 r c)) (e (ix2 ⟨c.val / 64, by omega⟩ 0)) := by
  pointwise [qcode]
  rw [ofBits_bot, fold_sel ⟨c.val / 64, by omega⟩ _ _ (fun x => by rw [sel_eq]; simp only [Fin.ext_iff]) ?_, ofBits_448, ofBits_neg448]
  · show min _ (max _ (_ * Ideal.exp2 ((((0#32 - e _).toInt : ℝ)) : EReal))) = _
    rw [exp2_pw, BitVec.zero_sub]; rfl
  · show 0 ≤ Ideal.exp2 ((((0#32 - e _).toInt : ℝ)) : EReal)
    rw [exp2_pw]; exact EReal.coe_nonneg.mpr (pw_pos _).le

/-- A step's input holds 256 tokens of an argument, from token `256 t`. -/
def Holds (x : Vec Ideal S256x2048 .bf16) (X : Arr) (t : ℕ) : Prop := ∀ (r : Fin 256) (c : Fin 2048), x (ix2 r c) = el X (t * 256 + r.val) c.val

theorem blk0_at {x : Vec Ideal S256x2048 .bf16} {X : Arr} {t : ℕ} (hx : Holds x X t) (r : Fin 128) (c : Fin 2048) :
    blk0 x (ix2 r c) = el X (t * 256 + r.val) c.val := by
  rw [← hx ⟨r.val, by omega⟩ c]
  pointwise [blk0]
theorem blk1_at {x : Vec Ideal S256x2048 .bf16} {X : Arr} {t : ℕ} (hx : Holds x X t) (r : Fin 128) (c : Fin 2048) :
    blk1 x (ix2 r c) = el X (t * 256 + (128 + r.val)) c.val := by
  rw [← hx ⟨128 + r.val, by omega⟩ c]
  pointwise [blk1]

theorem qexp_blk0 {x : Vec Ideal S256x2048 .bf16} {X : Arr} {t : ℕ} (hx : Holds x X t) (h : Fin 32) :
    qexp (qamax (blk0 x)) (ix2 h 0) = ex X (2 * t) h.val := by
  rw [qexp_at]
  refine congrArg expo (eq_of_forall_ge_iff fun B => ?_)
  rw [qamax_le, amx_le]
  refine forall_congr' fun r => forall_congr' fun l => ?_
  rw [blk0_at hx, show t * 256 + r.val = 2 * t * 128 + r.val by omega]
theorem qexp_blk1 {x : Vec Ideal S256x2048 .bf16} {X : Arr} {t : ℕ} (hx : Holds x X t) (h : Fin 32) :
    qexp (qamax (blk1 x)) (ix2 h 0) = ex X (2 * t + 1) h.val := by
  rw [qexp_at]
  refine congrArg expo (eq_of_forall_ge_iff fun B => ?_)
  rw [qamax_le, amx_le]
  refine forall_congr' fun r => forall_congr' fun l => ?_
  rw [blk1_at hx, show t * 256 + (128 + r.val) = (2 * t + 1) * 128 + r.val by omega]

/-- The step's codes are the argument's. -/
theorem qcodes_at {x : Vec Ideal S256x2048 .bf16} {X : Arr} {t : ℕ} (hx : Holds x X t) (r : Fin 256) (c : Fin 2048) :
    qcodes x (ix2 r c) = (cd X (t * 256 + r.val) c.val : EReal) := by
  rw [← cd_eq]
  pointwise [qcodes]
  by_cases h : r.val < 128
  · rw [dif_pos h, qcode_at, qexp_blk0 hx, blk0_at hx, show (t * 256 + r.val) / 128 = 2 * t by omega]
  · rw [dif_neg h, qcode_at, qexp_blk1 hx, blk1_at hx, show (t * 256 + r.val) / 128 = 2 * t + 1 by omega]
    have : t * 256 + (128 + (r.val - 128)) = t * 256 + r.val := by omega
    show code (el X (t * 256 + (128 + (r.val - 128))) _) _ = _
    rw [this]

/-- The step's scales are the argument's. -/
theorem qscales_at {x : Vec Ideal S256x2048 .bf16} {X : Arr} {t : ℕ} (hx : Holds x X t) (h : Fin 32) (b : Fin 2) :
    qscales x (ix2 h b) = (scl X (2 * t + b.val) h.val : EReal) := by
  pointwise [qscales]
  have key : ∀ e : IVec S32x1 32, qscale e (ix2 h 0) = (pw (e (ix2 h 0)) : EReal) := fun e => by
    pointwise [qscale]
    rfl
  by_cases hb : b.val < 1
  · rw [dif_pos hb, show (⟨b.val, hb⟩ : Fin 1) = 0 from Subsingleton.elim _ _, key, qexp_blk0 hx, show 2 * t + b.val = 2 * t by omega]; rfl
  · rw [dif_neg hb, show ∀ p, (⟨b.val - 1, p⟩ : Fin 1) = 0 from fun _ => Subsingleton.elim _ _, key, qexp_blk1 hx, show 2 * t + b.val = 2 * t + 1 by omega]; rfl

theorem lane_lt : ∀ s : Fin 256, IntOp.cmpi CmpIPredicate.slt (BitVec.ofNat 32 s.val) 128#32 = if s.val < 128 then 1#1 else 0#1 := by decide +kernel

theorem pay4_at (y : FVec Ideal S256x2048 .f32) (h : Fin 32) (l : Fin 64) (s : Fin 256) :
    k0_pay4 y (ix4 h 0 l s) = if s.val < 128 then y (ix2 s ⟨h.val * 64 + l.val, by omega⟩) else 0 := by
  pointwise [k0_pay4, k0_pay2, k0_pay3]
  rw [lane_lt]
  split <;> rfl
theorem pay5_at (y : FVec Ideal S256x2048 .f32) (h : Fin 32) (l : Fin 64) (s : Fin 256) :
    k0_pay5 y (ix4 h 0 l s) = if s.val < 128 then 0 else y (ix2 s ⟨h.val * 64 + l.val, by omega⟩) := by
  pointwise [k0_pay5, k0_pay2, k0_pay3]
  rw [lane_lt]
  split <;> rfl

/-- The step's value codes transposed, each block of 128 tokens in its own half, zero in the other. -/
theorem out0_10_at {x2 : Vec Ideal S256x2048 .bf16} {X : Arr} {t : ℕ} (hx : Holds x2 X t) (x0 x1 : Vec Ideal S256x2048 .bf16)
    (h : Fin 32) (b : Fin 2) (l : Fin 64) (s : Fin 256) :
    out0_10 x0 x1 x2 (ix4 h b l s) = if s.val / 128 = b.val then (cd X (t * 256 + s.val) (h.val * 64 + l.val) : EReal) else 0 := by
  unfold out0_10
  rw [pay58_eq]
  by_cases hb : b.val = 1
  · have e : (ix4 h b l s : S32x2x64x256.Idx) = r0_4.emb (ix4 h 0 l s : S32x1x64x256.Idx) := by
      funext a; apply Fin.ext
      match a with
      | ⟨0, _⟩ => show h.val = 0 + 1 * h.val; omega
      | ⟨1, _⟩ => show b.val = 1 + 1 * 0; omega
      | ⟨2, _⟩ => show l.val = 0 + 1 * l.val; omega
      | ⟨3, _⟩ => show s.val = 0 + 1 * s.val; omega
    rw [e, View.canon_cons_emb, pay5_at, qcodes_at hx]
    by_cases hs : s.val < 128
    · rw [if_pos hs, if_neg (by omega)]
    · rw [if_neg hs, if_pos (by omega)]
  · have e : (ix4 h b l s : S32x2x64x256.Idx) = r0_3.emb (ix4 h 0 l s : S32x1x64x256.Idx) := by
      funext a; apply Fin.ext
      match a with
      | ⟨0, _⟩ => show h.val = 0 + 1 * h.val; omega
      | ⟨1, _⟩ => show b.val = 0 + 1 * 0; omega
      | ⟨2, _⟩ => show l.val = 0 + 1 * l.val; omega
      | ⟨3, _⟩ => show s.val = 0 + 1 * s.val; omega
    rw [View.canon_cons_of_not_mem, e, View.canon_cons_emb, pay4_at, qcodes_at hx]
    · by_cases hs : s.val < 128
      · rw [if_pos hs, if_pos (by omega)]
      · rw [if_neg hs, if_neg (by omega)]
    · rw [Rect.mem_set_unit]
      intro H
      have := (H 1).1
      exact absurd this (by show ¬ (1 ≤ b.val); omega)
end Cert.KProof.Q
-- ==== Proof.QArrays.lean ====
/-
  The arrays the first kernel leaves: the three arguments' codes and scales, the query codes transposed, the value codes
  transposed with each block of 128 tokens in its own half.
-/
module

public import proofs.«01_k».proof.Proof.QBlock
public import proofs.«01_k».proof.Proof.Gen.KernelIdeal.Points
public import Idealize.ShloMosaic.Lib.Pipeline.Value
public import Idealize.ShloMosaic.Lib.Pipeline.ValueKit
public import Idealize.ShloMosaic.Lib.StableHlo.ReadAt

@[expose] public section

set_option maxRecDepth 16384

noncomputable section

namespace Cert.KProof.Q

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The three arguments as the kernel finds them. -/
abbrev aX (c : Dev nD) : Arr := m ((c : Thread nD τ).loc main_arg0)
abbrev aK (c : Dev nD) : Arr := m ((c : Thread nD τ).loc main_arg1)
abbrev aV (c : Dev nD) : Arr := m ((c : Thread nD τ).loc main_arg2)

theorem qcodes_idx {x : Vec Ideal S256x2048 .bf16} {X : Arr} {t : ℕ} (hx : Holds x X t) (y : S256x2048.Idx) :
    qcodes x y = (cd X (t * 256 + (y 0).val) (y 1).val : EReal) :=
  (congrArg (qcodes x) (eq_ix2 y)).trans (qcodes_at hx (y 0) (y 1))
theorem qcodesT_idx {x : Vec Ideal S256x2048 .bf16} {X : Arr} {t : ℕ} (hx : Holds x X t) (y : S2048x256.Idx) :
    transpose S2048x256 [1, 0] (qcodes x) transposes_S256x2048_p1_0_S2048x256 y = (cd X (t * 256 + (y 1).val) (y 0).val : EReal) := by
  have key : ∀ (d : Fin 2048) (r : Fin 256), transpose S2048x256 [1, 0] (qcodes x) transposes_S256x2048_p1_0_S2048x256 (ix2 d r) = qcodes x (ix2 r d) := fun d r => by
    pointwise
  exact (congrArg (transpose S2048x256 [1, 0] (qcodes x) transposes_S256x2048_p1_0_S2048x256) (eq_ix2 y)).trans ((key (y 0) (y 1)).trans (qcodes_at hx (y 1) (y 0)))
theorem qscales_idx {x : Vec Ideal S256x2048 .bf16} {X : Arr} {t : ℕ} (hx : Holds x X t) (y : S1x32x2.Idx) :
    shapeCast S1x32x2 (qscales x) shapeCasts_S32x2_S1x32x2 y = (scl X (2 * t + (y 2).val) (y 1).val : EReal) := by
  have key : ∀ (a : Fin 1) (h : Fin 32) (b : Fin 2), shapeCast S1x32x2 (qscales x) shapeCasts_S32x2_S1x32x2 (ix3 a h b) = qscales x (ix2 h b) := fun a h b => by
    pointwise
  refine (congrArg (shapeCast S1x32x2 (qscales x) shapeCasts_S32x2_S1x32x2) (eq_ix3 y)).trans ((key (y 0) (y 1) (y 2)).trans (qscales_at hx (y 1) (y 2)))
theorem out0_10_idx {x2 : Vec Ideal S256x2048 .bf16} {X : Arr} {t : ℕ} (hx : Holds x2 X t) (x0 x1 : Vec Ideal S256x2048 .bf16) (y : S32x2x64x256.Idx) :
    out0_10 x0 x1 x2 y = if (t * 256 + (y 3).val) % 256 / 128 = (y 1).val then (cd X (t * 256 + (y 3).val) ((y 0).val * 64 + (y 2).val) : EReal) else 0 := by
  have h3 : (y 3).val < 256 := (y 3).isLt
  refine (congrArg (out0_10 x0 x1 x2) (eq_ix4 y)).trans ((out0_10_at hx x0 x1 (y 0) (y 1) (y 2) (y 3)).trans ?_)
  rw [show (t * 256 + (y 3).val) % 256 = (y 3).val by omega]

theorem V1_v0 (c : Dev nD) (s : Fin 32768) (d : Fin 2048) : V1 m ρ c main_v0 (ix2 s d) = aX m c (ix3 0 s d) := by
  show StableHlo.after hostOps0 (W0 m ρ c) _ _ = _
  after_reads_at
theorem V1_v1 (c : Dev nD) (s : Fin 32768) (d : Fin 2048) : V1 m ρ c main_v1 (ix2 s d) = aK m c (ix3 0 s d) := by
  show StableHlo.after hostOps0 (W0 m ρ c) _ _ = _
  after_reads_at
theorem V1_v2 (c : Dev nD) (s : Fin 32768) (d : Fin 2048) : V1 m ρ c main_v2 (ix2 s d) = aV m c (ix3 0 s d) := by
  show StableHlo.after hostOps0 (W0 m ρ c) _ _ = _
  after_reads_at

theorem ix0_0 : ∀ t : Fin cfg0.N, win0_0.index t = ![t.val, 0] := by decide +kernel
theorem ix0_1 : ∀ t : Fin cfg0.N, win0_1.index t = ![t.val, 0] := by decide +kernel
theorem ix0_2 : ∀ t : Fin cfg0.N, win0_2.index t = ![t.val, 0] := by decide +kernel
theorem ix0_3 : ∀ t : Fin cfg0.N, win0_3.index t = ![t.val, 0] := by decide +kernel
theorem ix0_4 : ∀ t : Fin cfg0.N, win0_4.index t = ![t.val, 0, 0] := by decide +kernel
theorem ix0_5 : ∀ t : Fin cfg0.N, win0_5.index t = ![t.val, 0] := by decide +kernel
theorem ix0_6 : ∀ t : Fin cfg0.N, win0_6.index t = ![t.val, 0, 0] := by decide +kernel
theorem ix0_7 : ∀ t : Fin cfg0.N, win0_7.index t = ![t.val, 0] := by decide +kernel
theorem ix0_8 : ∀ t : Fin cfg0.N, win0_8.index t = ![t.val, 0, 0] := by decide +kernel
theorem ix0_9 : ∀ t : Fin cfg0.N, win0_9.index t = ![0, t.val] := by decide +kernel
theorem ix0_10 : ∀ t : Fin cfg0.N, win0_10.index t = ![0, 0, 0, t.val] := by decide +kernel

theorem holds_0 (c : Dev nD) (t : Fin cfg0.N) : Holds (iblk0 (V1 m ρ) c 0 t) (aX m c) t.val := fun r d => by
  have ht : t.val < 128 := t.isLt
  unfold iblk0
  blk_simp
  rw [show ((win0_0.blk t).view.emb (ix2 r d) : S32768x2048.Idx) = ix2 ⟨t.val * 256 + r.val, by omega⟩ d from ?_, V1_v0, el_eq (aX m c)]
  funext a; apply Fin.ext
  match a with
  | ⟨0, _⟩ => blk_simp [ix0_0]
  | ⟨1, _⟩ => blk_simp [ix0_0]

theorem holds_1 (c : Dev nD) (t : Fin cfg0.N) : Holds (iblk0 (V1 m ρ) c 1 t) (aK m c) t.val := fun r d => by
  have ht : t.val < 128 := t.isLt
  unfold iblk0
  blk_simp
  rw [show ((win0_1.blk t).view.emb (ix2 r d) : S32768x2048.Idx) = ix2 ⟨t.val * 256 + r.val, by omega⟩ d from ?_, V1_v1, el_eq (aK m c)]
  funext a; apply Fin.ext
  match a with
  | ⟨0, _⟩ => blk_simp [ix0_1]
  | ⟨1, _⟩ => blk_simp [ix0_1]

theorem holds_2 (c : Dev nD) (t : Fin cfg0.N) : Holds (iblk0 (V1 m ρ) c 2 t) (aV m c) t.val := fun r d => by
  have ht : t.val < 128 := t.isLt
  unfold iblk0
  blk_simp
  rw [show ((win0_2.blk t).view.emb (ix2 r d) : S32768x2048.Idx) = ix2 ⟨t.val * 256 + r.val, by omega⟩ d from ?_, V1_v2, el_eq (aV m c)]
  funext a; apply Fin.ext
  match a with
  | ⟨0, _⟩ => blk_simp [ix0_2]
  | ⟨1, _⟩ => blk_simp [ix0_2]

/-- The codes of argument 0. -/
theorem W2_qc (c : Dev nD) (s : Fin 32768) (d : Fin 2048) :
    W2 m ρ c (Proc.devRef .tc main_v3_0) (ix2 s d) = (cd (aX m c) s.val d.val : EReal) := by
  have h : (dat0 (V1 m ρ) c).arrAt 3 cfg0.N = (fun i : S32768x2048.Idx => (cd (aX m c) (i 0).val (i 1).val : EReal)) := by
    refine (dat0 (V1 m ρ) c).arrAt_eq_of_covers 3 _ (by decide +kernel) fun t hf y => ?_
    rw [after0_3, out0_3_eq]
    blk_simp [ix0_3]
    exact qcodes_idx (holds_0 m ρ c t) y
  exact congrFun ((W2_arr m ρ c 3).trans h) (ix2 s d)

/-- The codes of argument 1. -/
theorem W2_kc (c : Dev nD) (s : Fin 32768) (d : Fin 2048) :
    W2 m ρ c (Proc.devRef .tc main_v3_2) (ix2 s d) = (cd (aK m c) s.val d.val : EReal) := by
  have h : (dat0 (V1 m ρ) c).arrAt 5 cfg0.N = (fun i : S32768x2048.Idx => (cd (aK m c) (i 0).val (i 1).val : EReal)) := by
    refine (dat0 (V1 m ρ) c).arrAt_eq_of_covers 5 _ (by decide +kernel) fun t hf y => ?_
    rw [after0_5, out0_5_eq]
    blk_simp [ix0_5]
    exact qcodes_idx (holds_1 m ρ c t) y
  exact congrFun ((W2_arr m ρ c 5).trans h) (ix2 s d)

/-- The codes of argument 2. -/
theorem W2_vc (c : Dev nD) (s : Fin 32768) (d : Fin 2048) :
    W2 m ρ c (Proc.devRef .tc main_v3_4) (ix2 s d) = (cd (aV m c) s.val d.val : EReal) := by
  have h : (dat0 (V1 m ρ) c).arrAt 7 cfg0.N = (fun i : S32768x2048.Idx => (cd (aV m c) (i 0).val (i 1).val : EReal)) := by
    refine (dat0 (V1 m ρ) c).arrAt_eq_of_covers 7 _ (by decide +kernel) fun t hf y => ?_
    rw [after0_7, out0_7_eq]
    blk_simp [ix0_7]
    exact qcodes_idx (holds_2 m ρ c t) y
  exact congrFun ((W2_arr m ρ c 7).trans h) (ix2 s d)

/-- The scales of argument 0. -/
theorem W2_qs (c : Dev nD) (t : Fin 128) (h : Fin 32) (b : Fin 2) :
    W2 m ρ c (Proc.devRef .tc main_v3_1) (ix3 t h b) = (scl (aX m c) (2 * t.val + b.val) h.val : EReal) := by
  have h : (dat0 (V1 m ρ) c).arrAt 4 cfg0.N = (fun i : S128x32x2.Idx => (scl (aX m c) (2 * (i 0).val + (i 2).val) (i 1).val : EReal)) := by
    refine (dat0 (V1 m ρ) c).arrAt_eq_of_covers 4 _ (by decide +kernel) fun t hf y => ?_
    rw [after0_4, out0_4_eq]
    blk_simp [ix0_4]
    exact qscales_idx (holds_0 m ρ c t) y
  exact congrFun ((W2_arr m ρ c 4).trans h) (ix3 t _ b)

/-- The scales of argument 1. -/
theorem W2_ks (c : Dev nD) (t : Fin 128) (h : Fin 32) (b : Fin 2) :
    W2 m ρ c (Proc.devRef .tc main_v3_3) (ix3 t h b) = (scl (aK m c) (2 * t.val + b.val) h.val : EReal) := by
  have h : (dat0 (V1 m ρ) c).arrAt 6 cfg0.N = (fun i : S128x32x2.Idx => (scl (aK m c) (2 * (i 0).val + (i 2).val) (i 1).val : EReal)) := by
    refine (dat0 (V1 m ρ) c).arrAt_eq_of_covers 6 _ (by decide +kernel) fun t hf y => ?_
    rw [after0_6, out0_6_eq]
    blk_simp [ix0_6]
    exact qscales_idx (holds_1 m ρ c t) y
  exact congrFun ((W2_arr m ρ c 6).trans h) (ix3 t _ b)

/-- The scales of argument 2. -/
theorem W2_vs (c : Dev nD) (t : Fin 128) (h : Fin 32) (b : Fin 2) :
    W2 m ρ c (Proc.devRef .tc main_v3_5) (ix3 t h b) = (scl (aV m c) (2 * t.val + b.val) h.val : EReal) := by
  have h : (dat0 (V1 m ρ) c).arrAt 8 cfg0.N = (fun i : S128x32x2.Idx => (scl (aV m c) (2 * (i 0).val + (i 2).val) (i 1).val : EReal)) := by
    refine (dat0 (V1 m ρ) c).arrAt_eq_of_covers 8 _ (by decide +kernel) fun t hf y => ?_
    rw [after0_8, out0_8_eq]
    blk_simp [ix0_8]
    exact qscales_idx (holds_2 m ρ c t) y
  exact congrFun ((W2_arr m ρ c 8).trans h) (ix3 t _ b)

/-- The query codes, transposed. -/
theorem W2_qt (c : Dev nD) (d : Fin 2048) (s : Fin 32768) :
    W2 m ρ c (Proc.devRef .tc main_v3_6) (ix2 d s) = (cd (aX m c) s.val d.val : EReal) := by
  have h : (dat0 (V1 m ρ) c).arrAt 9 cfg0.N = (fun i : S2048x32768.Idx => (cd (aX m c) (i 1).val (i 0).val : EReal)) := by
    refine (dat0 (V1 m ρ) c).arrAt_eq_of_covers 9 _ (by decide +kernel) fun t hf y => ?_
    rw [after0_9, out0_9_eq]
    blk_simp [ix0_9]
    exact qcodesT_idx (holds_0 m ρ c t) y
  exact congrFun ((W2_arr m ρ c 9).trans h) (ix2 d s)

/-- The value codes, transposed, each block of 128 tokens in its own half. -/
theorem W2_vb (c : Dev nD) (h : Fin 32) (b : Fin 2) (l : Fin 64) (s : Fin 32768) :
    W2 m ρ c (Proc.devRef .tc main_v3_7) (ix4 h b l s) = if s.val % 256 / 128 = b.val then (cd (aV m c) s.val (h.val * 64 + l.val) : EReal) else 0 := by
  have h' : (dat0 (V1 m ρ) c).arrAt 10 cfg0.N = (fun i : S32x2x64x32768.Idx =>
      if (i 3).val % 256 / 128 = (i 1).val then (cd (aV m c) (i 3).val ((i 0).val * 64 + (i 2).val) : EReal) else 0) := by
    refine (dat0 (V1 m ρ) c).arrAt_eq_of_covers 10 _ (by decide +kernel) fun t hf y => ?_
    rw [after0_10]
    blk_simp [ix0_10]
    exact out0_10_idx (holds_2 m ρ c t) _ _ y
  exact congrFun ((W2_arr m ρ c 10).trans h') (ix4 h b l s)

theorem W3_qs (c : Dev nD) (h : Fin 32) (n : Fin 256) : W3 m ρ c (Proc.devRef .tc main_v5) (ix2 h n) = (scl (aX m c) n.val h.val : EReal) := by
  show StableHlo.after hostOps1 (W2 m ρ c) _ _ = _
  after_reads_at
  refine (W2_qs m ρ c _ h _).trans ?_
  show ((scl (aX m c) (2 * (n.val / 2) + n.val % 2) h.val : ℝ) : EReal) = _
  rw [show 2 * (n.val / 2) + n.val % 2 = n.val by omega]

theorem W3_ks (c : Dev nD) (h : Fin 32) (n : Fin 256) : W3 m ρ c (Proc.devRef .tc main_v7) (ix2 h n) = (scl (aK m c) n.val h.val : EReal) := by
  show StableHlo.after hostOps1 (W2 m ρ c) _ _ = _
  after_reads_at
  refine (W2_ks m ρ c _ h _).trans ?_
  show ((scl (aK m c) (2 * (n.val / 2) + n.val % 2) h.val : ℝ) : EReal) = _
  rw [show 2 * (n.val / 2) + n.val % 2 = n.val by omega]

theorem W3_vs (c : Dev nD) (h : Fin 32) (n : Fin 256) : W3 m ρ c (Proc.devRef .tc main_v9) (ix2 h n) = (scl (aV m c) n.val h.val : EReal) := by
  show StableHlo.after hostOps1 (W2 m ρ c) _ _ = _
  after_reads_at
  refine (W2_vs m ρ c _ h _).trans ?_
  show ((scl (aV m c) (2 * (n.val / 2) + n.val % 2) h.val : ℝ) : EReal) = _
  rw [show 2 * (n.val / 2) + n.val % 2 = n.val by omega]

theorem W3_kc (c : Dev nD) (s : Fin 32768) (d : Fin 2048) :
    W3 m ρ c (Proc.devRef .tc main_v3_2) (ix2 s d) = (cd (aK m c) s.val d.val : EReal) := by
  rw [W3_of m ρ c main_v3_2 (by decide +kernel)]; exact W2_kc m ρ c s d
theorem W3_qt (c : Dev nD) (d : Fin 2048) (s : Fin 32768) :
    W3 m ρ c (Proc.devRef .tc main_v3_6) (ix2 d s) = (cd (aX m c) s.val d.val : EReal) := by
  rw [W3_of m ρ c main_v3_6 (by decide +kernel)]; exact W2_qt m ρ c d s
theorem W3_vb (c : Dev nD) (h : Fin 32) (b : Fin 2) (l : Fin 64) (s : Fin 32768) :
    W3 m ρ c (Proc.devRef .tc main_v3_7) (ix4 h b l s) = if s.val % 256 / 128 = b.val then (cd (aV m c) s.val (h.val * 64 + l.val) : EReal) else 0 := by
  rw [W3_of m ρ c main_v3_7 (by decide +kernel)]; exact W2_vb m ρ c h b l s

/-! ## The results that the second kernel does not write -/

theorem W4_keep (c : Dev nD) (r : Ref sig .tc) (h : ∀ w : Fin cfg1.W, Pipeline.arrRef spec1 w = r → (cfg1.win w).isOut = false) (h' : r ∉ hostOps1_W) :
    W4 m ρ c (Proc.devRef .tc r) = W2 m ρ c (Proc.devRef .tc r) :=
  (W4_of m ρ c r h).trans (W3_of m ρ c r h')

theorem W5_qc (c : Dev nD) (s : Fin 32768) (h : Fin 32) (l : Fin 64) :
    W5 m ρ c (Proc.devRef .tc main_v12) (ix4 0 s h l) = (cd (aX m c) s.val (h.val * 64 + l.val) : EReal) := by
  show StableHlo.after hostOps2 (W4 m ρ c) _ _ = _
  after_reads_at
  rw [W4_keep m ρ c main_v3_0 (by decide +kernel) (by decide +kernel)]
  exact W2_qc m ρ c s _

theorem W5_kc (c : Dev nD) (s : Fin 32768) (h : Fin 32) (l : Fin 64) :
    W5 m ρ c (Proc.devRef .tc main_v15) (ix4 0 s h l) = (cd (aK m c) s.val (h.val * 64 + l.val) : EReal) := by
  show StableHlo.after hostOps2 (W4 m ρ c) _ _ = _
  after_reads_at
  rw [W4_keep m ρ c main_v3_2 (by decide +kernel) (by decide +kernel)]
  exact W2_kc m ρ c s _

theorem W5_vc (c : Dev nD) (s : Fin 32768) (h : Fin 32) (l : Fin 64) :
    W5 m ρ c (Proc.devRef .tc main_v18) (ix4 0 s h l) = (cd (aV m c) s.val (h.val * 64 + l.val) : EReal) := by
  show StableHlo.after hostOps2 (W4 m ρ c) _ _ = _
  after_reads_at
  rw [W4_keep m ρ c main_v3_4 (by decide +kernel) (by decide +kernel)]
  exact W2_vc m ρ c s _

theorem W5_qs (c : Dev nD) (n : Fin 256) (h : Fin 32) :
    W5 m ρ c (Proc.devRef .tc main_v14) (ix3 0 n h) = (scl (aX m c) n.val h.val : EReal) := by
  show StableHlo.after hostOps2 (W4 m ρ c) _ _ = _
  after_reads_at
  rw [W4_keep m ρ c main_v3_1 (by decide +kernel) (by decide +kernel)]
  refine (W2_qs m ρ c _ h _).trans ?_
  show ((scl (aX m c) (2 * (n.val / 2) + n.val % 2) h.val : ℝ) : EReal) = _
  rw [show 2 * (n.val / 2) + n.val % 2 = n.val by omega]

theorem W5_ks (c : Dev nD) (n : Fin 256) (h : Fin 32) :
    W5 m ρ c (Proc.devRef .tc main_v17) (ix3 0 n h) = (scl (aK m c) n.val h.val : EReal) := by
  show StableHlo.after hostOps2 (W4 m ρ c) _ _ = _
  after_reads_at
  rw [W4_keep m ρ c main_v3_3 (by decide +kernel) (by decide +kernel)]
  refine (W2_ks m ρ c _ h _).trans ?_
  show ((scl (aK m c) (2 * (n.val / 2) + n.val % 2) h.val : ℝ) : EReal) = _
  rw [show 2 * (n.val / 2) + n.val % 2 = n.val by omega]

theorem W5_vs (c : Dev nD) (n : Fin 256) (h : Fin 32) :
    W5 m ρ c (Proc.devRef .tc main_v20) (ix3 0 n h) = (scl (aV m c) n.val h.val : EReal) := by
  show StableHlo.after hostOps2 (W4 m ρ c) _ _ = _
  after_reads_at
  rw [W4_keep m ρ c main_v3_5 (by decide +kernel) (by decide +kernel)]
  refine (W2_vs m ρ c _ h _).trans ?_
  show ((scl (aV m c) (2 * (n.val / 2) + n.val % 2) h.val : ℝ) : EReal) = _
  rw [show 2 * (n.val / 2) + n.val % 2 = n.val by omega]

theorem W5_y (c : Dev nD) (s : Fin 32768) (d : Fin 2048) :
    W5 m ρ c (Proc.devRef .tc main_v11) (ix3 0 s d) = W4 m ρ c (Proc.devRef .tc main_v10) (ix2 s d) := by
  show StableHlo.after hostOps2 (W4 m ρ c) _ _ = _
  after_reads_at

end Cert.KProof.Q
-- ==== Proof.AArr.lean ====
/-
  The array the attention kernel leaves: every row and column holds the attention of the row's token in the column's head.
-/
module

public import proofs.«01_k».proof.Proof.AOut
public import proofs.«01_k».proof.Proof.QArrays

@[expose] public section

set_option maxRecDepth 16384

noncomputable section

namespace Cert.KProof.A

open Cert.KernelIdeal Cert.KernelIdeal.Gen Idealize.ShloMosaic Idealize.ShloMosaic.TcCoe Idealize.SL.Sem Cert.KProof.Q

variable (m : (ℓ : Loc nD τ sig) → Buf (Elt Ideal) ℓ) (ρ : Dev nD → PrngReg)

theorem ix1_0 : ∀ t : Fin cfg1.N, win1_0.index t = ![0, 0] := by decide +kernel
theorem ix1_1 : ∀ t : Fin cfg1.N, win1_1.index t = ![0, 0] := by decide +kernel
theorem ix1_2 : ∀ t : Fin cfg1.N, win1_2.index t = ![0, 0] := by decide +kernel
theorem ix1_3 : ∀ t : Fin cfg1.N, win1_3.index t = ![0, (grid1.coords t 0).val] := by decide +kernel
theorem ix1_4 : ∀ t : Fin cfg1.N, win1_4.index t = ![(grid1.coords t 0).val, (grid1.coords t 1).val] := by decide +kernel
theorem ix1_5 : ∀ t : Fin cfg1.N, win1_5.index t = ![(grid1.coords t 0).val, 0, 0, 0] := by decide +kernel
theorem ix1_6 : ∀ t : Fin cfg1.N, win1_6.index t = ![(grid1.coords t 1).val, (grid1.coords t 0).val] := by decide +kernel

/-- The blocks the kernel reads at a point. -/
theorem blk_at (c : Dev nD) (t : Fin cfg1.N) : Blk (aX m c) (aK m c) (aV m c) (grid1.coords t 0).val (grid1.coords t 1).val
    (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) := by
  have hp : (grid1.coords t 0).val < 16 := (grid1.coords t 0).isLt
  have hn : (grid1.coords t 1).val < 128 := (grid1.coords t 1).isLt
  constructor
  · intro h n hh hn
    unfold iblk1 sc
    blk_simp
    rw [show ((win1_0.blk t).view.emb (ix2 (⟨h % 32, Nat.mod_lt _ (by decide)⟩ : Fin 32) (⟨n % 256, Nat.mod_lt _ (by decide)⟩ : Fin 256)) : S32x256.Idx) = ix2 ⟨h, hh⟩ ⟨n, hn⟩ from ?_]
    · exact W3_qs m ρ c _ _
    · funext a; apply Fin.ext
      match a with
      | ⟨0, _⟩ => blk_simp [ix1_0]; exact Nat.mod_eq_of_lt hh
      | ⟨1, _⟩ => blk_simp [ix1_0]; exact Nat.mod_eq_of_lt hn
  · intro h n hh hn
    unfold iblk1 sc
    blk_simp
    rw [show ((win1_1.blk t).view.emb (ix2 (⟨h % 32, Nat.mod_lt _ (by decide)⟩ : Fin 32) (⟨n % 256, Nat.mod_lt _ (by decide)⟩ : Fin 256)) : S32x256.Idx) = ix2 ⟨h, hh⟩ ⟨n, hn⟩ from ?_]
    · exact W3_ks m ρ c _ _
    · funext a; apply Fin.ext
      match a with
      | ⟨0, _⟩ => blk_simp [ix1_1]; exact Nat.mod_eq_of_lt hh
      | ⟨1, _⟩ => blk_simp [ix1_1]; exact Nat.mod_eq_of_lt hn
  · intro h n hh hn
    unfold iblk1 sc
    blk_simp
    rw [show ((win1_2.blk t).view.emb (ix2 (⟨h % 32, Nat.mod_lt _ (by decide)⟩ : Fin 32) (⟨n % 256, Nat.mod_lt _ (by decide)⟩ : Fin 256)) : S32x256.Idx) = ix2 ⟨h, hh⟩ ⟨n, hn⟩ from ?_]
    · exact W3_vs m ρ c _ _
    · funext a; apply Fin.ext
      match a with
      | ⟨0, _⟩ => blk_simp [ix1_2]; exact Nat.mod_eq_of_lt hh
      | ⟨1, _⟩ => blk_simp [ix1_2]; exact Nat.mod_eq_of_lt hn
  · intro u hu r d
    unfold iblk1
    show (win1_3.blk t).view.read (Elt Ideal) _ (ix2 (⟨(u * 256 + r.val) % 32768, Nat.mod_lt _ (by decide)⟩ : Fin 32768) (⟨d.val, d.isLt⟩ : Fin 128)) = _
    blk_simp
    rw [show ((win1_3.blk t).view.emb (ix2 (⟨(u * 256 + r.val) % 32768, Nat.mod_lt _ (by decide)⟩ : Fin 32768) (⟨d.val, d.isLt⟩ : Fin 128)) : S32768x2048.Idx) = ix2 ⟨u * 256 + r.val, by omega⟩ ⟨(grid1.coords t 0).val * 128 + d.val, by omega⟩ from ?_]
    · exact W3_kc m ρ c _ _
    · funext a; apply Fin.ext
      match a with
      | ⟨0, _⟩ => blk_simp [ix1_3]; exact Nat.mod_eq_of_lt (show u * 256 + r.val < 32768 by omega)
      | ⟨1, _⟩ => blk_simp [ix1_3]
  · intro d q
    unfold iblk1
    blk_simp
    rw [show ((win1_4.blk t).view.emb (ix2 d q) : S2048x32768.Idx) = ix2 ⟨(grid1.coords t 0).val * 128 + d.val, by omega⟩ ⟨(grid1.coords t 1).val * 256 + q.val, by omega⟩ from ?_]
    · exact W3_qt m ρ c _ _
    · funext a; apply Fin.ext
      match a with
      | ⟨0, _⟩ => blk_simp [ix1_4]
      | ⟨1, _⟩ => blk_simp [ix1_4]
  · intro u hu hh b l x
    unfold iblk1
    show (win1_5.blk t).view.read (Elt Ideal) _ (ix4 hh (⟨b.val, b.isLt⟩ : Fin 2) (⟨l.val, l.isLt⟩ : Fin 64) (⟨(u * 256 + x.val) % 32768, Nat.mod_lt _ (by decide)⟩ : Fin 32768)) = _
    blk_simp
    rw [show ((win1_5.blk t).view.emb (ix4 hh (⟨b.val, b.isLt⟩ : Fin 2) (⟨l.val, l.isLt⟩ : Fin 64) (⟨(u * 256 + x.val) % 32768, Nat.mod_lt _ (by decide)⟩ : Fin 32768)) : S32x2x64x32768.Idx) = ix4 ⟨(grid1.coords t 0).val * 2 + hh.val, by omega⟩ b l ⟨u * 256 + x.val, by omega⟩ from ?_]
    · refine (W3_vb m ρ c _ _ _ _).trans ?_
      show (if (u * 256 + x.val) % 256 / 128 = b.val then (cd (aV m c) (u * 256 + x.val) (((grid1.coords t 0).val * 2 + hh.val) * 64 + l.val) : EReal) else 0) = _
      rw [show (u * 256 + x.val) % 256 = x.val by omega, show (grid1.coords t 0).val * 2 + hh.val = 2 * (grid1.coords t 0).val + hh.val by omega]
      split <;> rfl
    · funext a; apply Fin.ext
      match a with
      | ⟨0, _⟩ => blk_simp [ix1_5]
      | ⟨1, _⟩ => blk_simp [ix1_5]
      | ⟨2, _⟩ => blk_simp [ix1_5]
      | ⟨3, _⟩ => blk_simp [ix1_5]; exact Nat.mod_eq_of_lt (show u * 256 + x.val < 32768 by omega)

theorem outs_idx (c : Dev nD) (t : Fin cfg1.N) (y : S256x128.Idx) :
    outsAt1 (V3 m ρ) c t y = (yy (aX m c) (aK m c) (aV m c) ((grid1.coords t 1).val * 256 + (y 0).val) ((grid1.coords t 0).val * 128 + (y 1).val) : EReal) := by
  refine (congrArg (outsAt1 (V3 m ρ) c t) (eq_ix2 y)).trans ?_
  unfold outsAt1
  exact out_at c (grid1.coords t) _ _ _ _ _ _ _ _ _ _ _ _ _ _ _ _ _ _ _ _ _ _ _ _ _ _ _ _ _ (blk_at m ρ c t) (y 0) (y 1)

/-- The attention's array. -/
theorem W4_y (c : Dev nD) (s : Fin 32768) (d : Fin 2048) :
    W4 m ρ c (Proc.devRef .tc main_v10) (ix2 s d) = (yy (aX m c) (aK m c) (aV m c) s.val d.val : EReal) := by
  have h : (dat1 (V3 m ρ) c).arrAt 6 cfg1.N = (fun i : S32768x2048.Idx => (yy (aX m c) (aK m c) (aV m c) (i 0).val (i 1).val : EReal)) := by
    refine (dat1 (V3 m ρ) c).arrAt_eq_of_covers 6 _ (by decide +kernel) fun t hf y => ?_
    rw [after1_6]
    blk_simp [ix1_6]
    exact outs_idx m ρ c t y
  exact congrFun ((W4_arr m ρ c 6).trans h) (ix2 s d)

end Cert.KProof.A
-- ==== Proof.RQuant.lean ====
/- The reference's quantiser at the ideal instance: each tensor's clipped codes are the codes of its blocks under their
   exponents, and each tensor's scales their powers of two. -/
module

public import proofs.«01_k».proof.Proof.Gen.ReferenceIdeal
public import proofs.«01_k».proof.Proof.Spec
public import Idealize.ShloMosaic.Lib.Pointwise
public import Idealize.ShloMosaic.Lib.ValueIdx

@[expose] public section

set_option maxRecDepth 16384

noncomputable section

namespace Cert.KProof.R

open Cert.ReferenceIdeal Cert.ReferenceIdeal.Gen Idealize.ShloMosaic Idealize.ShloMosaic.TcCoe Idealize.SL.Sem Idealize.ShloMosaic.StableHlo

/-- One argument. -/
abbrev T0 := FVec Idealize.ShloMosaic.Ideal S1x32768x2048 .bf16
/-- Numbers per block, token of the block, head and lane. -/
abbrev T4 := FVec Idealize.ShloMosaic.Ideal S256x128x32x64 .f32
/-- Numbers per block and head. -/
abbrev T2 := FVec Idealize.ShloMosaic.Ideal S256x32 .f32
/-- Exponents per block and head. -/
abbrev I2 := IVec S256x32 32

/-- An argument cut in blocks, tokens, heads and lanes. -/
def rd (x : T0) : T4 :=
  shapeCast _ (extf .f32 x bitsLt_bf16_f32) shapeCasts_S1x32768x2048_S256x128x32x64

/-- The largest magnitude per block and head. -/
def rmx (t : T4) : T2 :=
  Host.reduce FloatOps.maximumf (Host.absf t) (constant S_ .f32 0xFF800000#32) reducesTo_S256x128x32x64_S256x32_d1_3 h_S_

/-- The exponent of a largest magnitude. -/
def rex (a : T2) : I2 :=
  select (cmpf .oeq a (broadcastInDim S256x32 ![] bcast_S_S256x32 (constant S_ .f32 0x00000000#32))) (broadcastInDim S256x32 ![] bcast_S_S256x32 (id (constantI S_ 32 0#32))) (fptosi 32 (addf (Host.floor (Host.divf (Host.log (mulf a (broadcastInDim S256x32 ![] bcast_S_S256x32 (constant S_ .f32 0x3B124925#32)))) (broadcastInDim S256x32 ![] bcast_S_S256x32 (Host.log (constant S_ .f32 0x40000000#32))))) (broadcastInDim S256x32 ![] bcast_S_S256x32 (constant S_ .f32 0x3F800000#32))))

/-- The clipped codes under the exponents. -/
def rcd (t : T4) (e : I2) : T4 :=
  minimumf (broadcastInDim S256x128x32x64 ![] bcast_S_S256x128x32x64 (id (constant S_ .f32 0x43E00000#32))) (maximumf (broadcastInDim S256x128x32x64 ![] bcast_S_S256x128x32x64 (id (constant S_ .f32 0xC3E00000#32))) (mulf t (broadcastInDim S256x128x32x64 ![0, 1, 2, 3] bcast_S256x1x32x1_S256x128x32x64_0_1_2_3 (broadcastInDim S256x1x32x1 ![0, 2] bcast_S256x32_S256x1x32x1_0_2 (Host.powf (broadcastInDim S256x32 ![] bcast_S_S256x32 (constant S_ .f32 0x40000000#32)) (sitofp .f32 (negi e)))))))

/-- The scales of the exponents. -/
def rsc (e : I2) : T2 :=
  Host.powf (broadcastInDim S256x32 ![] bcast_S_S256x32 (constant S_ .f32 0x40000000#32)) (sitofp .f32 e)

/-- A tensor's codes. -/
def codes (x : T0) : T4 := rcd (rd x) (rex (rmx (rd x)))

/-- A tensor's scales. -/
def scales (x : T0) : T2 := rsc (rex (rmx (rd x)))

theorem rd_at (x : T0) (b : Fin 256) (r : Fin 128) (h : Fin 32) (l : Fin 64) :
    rd x (ix4 b r h l) = el x (b.val * 128 + r.val) (h.val * 64 + l.val) := by
  pointwise [rd]
  exact el_eq x ⟨b.val * 128 + r.val, _⟩ ⟨h.val * 64 + l.val, _⟩

/-- The indices a block's head takes its largest magnitude over: every token of the block and every lane of the head. -/
theorem fiber4 (b : Fin 256) (h : Fin 32) (i : S256x128x32x64.Idx) :
    reducesTo_S256x128x32x64_S256x32_d1_3.drop i = ix2 b h ↔ ∃ k : Fin 128 × Fin 64, ix4 b k.1 h k.2 = i := by
  constructor
  · intro e
    refine ⟨(i 1, i 3), ?_⟩
    funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨k, rfl⟩
    funext a; apply Fin.ext
    match a with
    | ⟨0, _⟩ => rfl
    | ⟨1, _⟩ => rfl

/-- The largest magnitude of a block's head. -/
theorem rmx_at (x : T0) (b : Fin 256) (h : Fin 32) : rmx (rd x) (ix2 b h) = amx x b.val h.val := by
  have e : rmx (rd x) (ix2 b h) = Finset.fold max (Ideal.ofBits FTy.f32 0xFF800000#32) (fun j => FloatOps.absf (rd x j))
      (Finset.univ.filter fun i => reducesTo_S256x128x32x64_S256x32_d1_3.drop i = ix2 b h) := by
    pointwise [rmx]
  rw [e]
  refine eq_of_forall_ge_iff fun B => ?_
  rw [ofBits_bot, Finset.fold_max_le, amx_le]
  constructor
  · intro hB r l
    have := hB.2 (ix4 b r h l) (Finset.mem_filter.mpr ⟨Finset.mem_univ _, (fiber4 b h _).mpr ⟨(r, l), rfl⟩⟩)
    rw [rd_at] at this
    exact this
  · intro hB
    refine ⟨bot_le, fun i hi => ?_⟩
    obtain ⟨k, rfl⟩ := (fiber4 b h i).mp (Finset.mem_filter.mp hi).2
    rw [rd_at]
    exact hB k.1 k.2

theorem rex_at (a : T2) (b : Fin 256) (h : Fin 32) : rex a (ix2 b h) = expo (a (ix2 b h)) := by
  unfold rex
  pointwise
  rfl

theorem rsc_at (e : I2) (b : Fin 256) (h : Fin 32) : rsc e (ix2 b h) = (pw (e (ix2 b h)) : EReal) := by
  pointwise [rsc]
  exact pow_pw _

theorem rcd_at (t : T4) (e : I2) (b : Fin 256) (r : Fin 128) (h : Fin 32) (l : Fin 64) :
    rcd t e (ix4 b r h l) = code (t (ix4 b r h l)) (e (ix2 b h)) := by
  have a : rcd t e (ix4 b r h l) = min (Ideal.ofBits .f32 0x43E00000#32) (max (Ideal.ofBits .f32 0xC3E00000#32)
      (t (ix4 b r h l) * Ideal.pow (Ideal.ofBits .f32 0x40000000#32) (((-e (ix2 b h)).toInt : ℝ) : EReal))) := by
    pointwise [rcd]
    rfl
  rw [a, pow_pw, ofBits_448, ofBits_neg448]
  rfl

theorem ex_at (x : T0) (b : Fin 256) (h : Fin 32) : rex (rmx (rd x)) (ix2 b h) = ex x b.val h.val := by
  rw [rex_at, rmx_at]; rfl

/-- The codes of a tensor: block `b`, token `r` of it, head `h`, lane `l`. -/
theorem codes_at (x : T0) (b : Fin 256) (r : Fin 128) (h : Fin 32) (l : Fin 64) :
    codes x (ix4 b r h l) = (cd x (b.val * 128 + r.val) (h.val * 64 + l.val) : EReal) := by
  unfold codes
  rw [rcd_at, rd_at, ex_at, ← cd_eq, show (b.val * 128 + r.val) / 128 = b.val by omega,
    show (h.val * 64 + l.val) / 64 = h.val by omega]

/-- The scale of a tensor's block and head. -/
theorem scales_at (x : T0) (b : Fin 256) (h : Fin 32) : scales x (ix2 b h) = (scl x b.val h.val : EReal) := by
  unfold scales
  rw [rsc_at, ex_at]; rfl

/-- The codes returned: token `s`, head `h`, lane `l`. -/
theorem codes4_at (x : T0) (s : Fin 32768) (h : Fin 32) (l : Fin 64) :
    (shapeCast _ (Host.convertf .fp8e4m3 (codes x)) shapeCasts_S256x128x32x64_S1x32768x32x64 : FVec Idealize.ShloMosaic.Ideal S1x32768x32x64 .fp8e4m3)
      (ix4 0 s h l) = (cd x s.val (h.val * 64 + l.val) : EReal) := by
  pointwise
  refine (codes_at x ⟨s.val / 128, _⟩ ⟨s.val % 128, _⟩ h l).trans ?_
  dsimp only
  rw [show s.val / 128 * 128 + s.val % 128 = s.val by omega]

/-- The scales returned: block `b`, head `h`. -/
theorem scales3_at (x : T0) (b : Fin 256) (h : Fin 32) :
    (shapeCast _ (scales x) shapeCasts_S256x32_S1x256x32 : FVec Idealize.ShloMosaic.Ideal S1x256x32 .f32) (ix3 0 b h)
      = (scl x b.val h.val : EReal) := by
  pointwise
  exact scales_at x b h

end Cert.KProof.R
-- ==== Proof.RAttn.lean ====
/- The reference's attention at the ideal instance: masked scores, weights over the largest, weight codes, the sums under the
   value scales over the sum of the weights, each read at an index. -/
module

public import proofs.«01_k».proof.Proof.RQuant
public import proofs.«01_k».proof.Proof.ALoop

@[expose] public section

set_option maxRecDepth 16384

noncomputable section

namespace Cert.KProof.R

open Cert.ReferenceIdeal Cert.ReferenceIdeal.Gen Idealize.ShloMosaic Idealize.ShloMosaic.TcCoe Idealize.SL.Sem Idealize.ShloMosaic.StableHlo

/-- Numbers per head, query block, query, key block and key. -/
abbrev T5 := FVec Idealize.ShloMosaic.Ideal S32x256x128x256x128 .f32
/-- Numbers per head, query block and query, over the keys. -/
abbrev T5c := FVec Idealize.ShloMosaic.Ideal S32x256x128x1x1 .f32
/-- Exponents per head, query block and query, over the keys. -/
abbrev I5c := IVec S32x256x128x1x1 32
/-- Numbers per head, query block and query. -/
abbrev T3 := FVec Idealize.ShloMosaic.Ideal S32x256x128 .f32
/-- Numbers per head, key block, query block, query and lane. -/
abbrev T5o := FVec Idealize.ShloMosaic.Ideal S32x256x256x128x64 .f32
/-- Numbers per head, query block, query and lane. -/
abbrev T4o := FVec Idealize.ShloMosaic.Ideal S32x256x128x64 .f32

/-- The query and key codes of a head against each other. -/
def rdot (c24 c52 : T4) : T5 := Host.dotGeneral dot_S256x128x32x64_S256x128x32x64_S32x256x128x256x128_3_3_01_01_2_2 none c24 c52

/-- The scores under their scales, through the cap. -/
def rlog (a : T5) (s27 s55 : T2) : T5 := (mulf (broadcastInDim S32x256x128x256x128 ![] bcast_S_S32x256x128x256x128 (constant S_ .f32 0x42480000#32)) (Host.tanh (Host.divf (mulf (mulf a (broadcastInDim S32x256x128x256x128 ![0, 1, 2, 3, 4] bcast_S32x256x1x1x1_S32x256x128x256x128_0_1_2_3_4 (broadcastInDim S32x256x1x1x1 ![0, 1] bcast_S32x256_S32x256x1x1x1_0_1 (transpose S32x256 [1, 0] (mulf s27 (broadcastInDim S256x32 ![] bcast_S_S256x32 (constant S_ .f32 0x3E000000#32))) transposes_S256x32_S32x256_1_0)))) (broadcastInDim S32x256x128x256x128 ![0, 1, 2, 3, 4] bcast_S32x1x1x256x1_S32x256x128x256x128_0_1_2_3_4 (broadcastInDim S32x1x1x256x1 ![0, 3] bcast_S32x256_S32x1x1x256x1_0_3 (transpose S32x256 [1, 0] s55 transposes_S256x32_S32x256_1_0)))) (broadcastInDim S32x256x128x256x128 ![] bcast_S_S32x256x128x256x128 (constant S_ .f32 0x42480000#32)))))

/-- The position of each token. -/
def rpos : IVec S256x128 32 := shapeCast _ (iotaInDim S32768 32 0) shapeCasts_S32768_S256x128

/-- The scores, those of keys past the query at minus infinity. -/
def rmask (p : IVec S256x128 32) (g : T5) : T5 := select (broadcastInDim S32x256x128x256x128 ![0, 1, 2, 3, 4] bcast_S1x256x128x256x128_S32x256x128x256x128_0_1_2_3_4 (broadcastInDim S1x256x128x256x128 ![1, 2, 3, 4] bcast_S256x128x256x128_S1x256x128x256x128_1_2_3_4 (cmpi .sle (broadcastInDim S256x128x256x128 ![0, 1, 2, 3] bcast_S1x1x256x128_S256x128x256x128_0_1_2_3 (broadcastInDim S1x1x256x128 ![2, 3] bcast_S256x128_S1x1x256x128_2_3 p)) (broadcastInDim S256x128x256x128 ![0, 1, 2, 3] bcast_S256x128x1x1_S256x128x256x128_0_1_2_3 (broadcastInDim S256x128x1x1 ![0, 1] bcast_S256x128_S256x128x1x1_0_1 p))))) g (broadcastInDim S32x256x128x256x128 ![] bcast_S_S32x256x128x256x128 (constant S_ .f32 0xFF800000#32))

/-- The largest over the keys. -/
def rmax5 (g : T5) : T3 := Host.reduce FloatOps.maximumf g (constant S_ .f32 0xFF800000#32) reducesTo_S32x256x128x256x128_S32x256x128_d3_4 h_S_

/-- The weights over the largest. -/
def rprob (g : T5) (M : T3) : T5 :=
  Host.exp (subf g (broadcastInDim S32x256x128x256x128 ![0, 1, 2, 3, 4] bcast_S32x256x128x1x1_S32x256x128x256x128_0_1_2_3_4 (broadcastInDim S32x256x128x1x1 ![0, 1, 2] bcast_S32x256x128_S32x256x128x1x1_0_1_2 M)))

/-- A number per query, over the keys. -/
def rb (M : T3) : T5c := broadcastInDim S32x256x128x1x1 ![0, 1, 2] bcast_S32x256x128_S32x256x128x1x1_0_1_2 M

/-- The exponent of the weights' largest. -/
def rpe (a : T5c) : I5c := select (cmpf .oeq a (broadcastInDim S32x256x128x1x1 ![] bcast_S_S32x256x128x1x1 (constant S_ .f32 0x00000000#32))) (broadcastInDim S32x256x128x1x1 ![] bcast_S_S32x256x128x1x1 (id (constantI S_ 32 0#32))) (fptosi 32 (addf (Host.floor (Host.divf (Host.log (mulf a (broadcastInDim S32x256x128x1x1 ![] bcast_S_S32x256x128x1x1 (constant S_ .f32 0x3B124925#32)))) (broadcastInDim S32x256x128x1x1 ![] bcast_S_S32x256x128x1x1 (Host.log (constant S_ .f32 0x40000000#32))))) (broadcastInDim S32x256x128x1x1 ![] bcast_S_S32x256x128x1x1 (constant S_ .f32 0x3F800000#32))))

/-- The clipped weight codes. -/
def rpc (p : T5) (e : I5c) : T5 := minimumf (broadcastInDim S32x256x128x256x128 ![] bcast_S_S32x256x128x256x128 (id (constant S_ .f32 0x43E00000#32))) (maximumf (broadcastInDim S32x256x128x256x128 ![] bcast_S_S32x256x128x256x128 (id (constant S_ .f32 0xC3E00000#32))) (mulf p (broadcastInDim S32x256x128x256x128 ![0, 1, 2, 3, 4] bcast_S32x256x128x1x1_S32x256x128x256x128_0_1_2_3_4 (Host.powf (broadcastInDim S32x256x128x1x1 ![] bcast_S_S32x256x128x1x1 (constant S_ .f32 0x40000000#32)) (sitofp .f32 (negi e))))))

/-- The weight codes against the value codes, block by block of keys. -/
def rdo (p : T5) (v : T4) : T5o := Host.dotGeneral dot_S32x256x128x256x128_S256x128x32x64_S32x256x256x128x64_4_1_12_3_03_20 none p v

/-- The blocks' sums under the value scales. -/
def ro (a : T5o) (s83 : T2) : T4o := Host.reduceAdd (mulf a (broadcastInDim S32x256x256x128x64 ![0, 1, 2, 3, 4] bcast_S32x256x1x1x1_S32x256x256x128x64_0_1_2_3_4 (broadcastInDim S32x256x1x1x1 ![0, 1] bcast_S32x256_S32x256x1x1x1_0_1 (transpose S32x256 [1, 0] s83 transposes_S256x32_S32x256_1_0)))) (constant S_ .f32 0x00000000#32) reducesTo_S32x256x256x128x64_S32x256x128x64_d1 h_S_

/-- The sum of the weights. -/
def rl (p : T5) : T3 := Host.reduceAdd p (constant S_ .f32 0x00000000#32) reducesTo_S32x256x128x256x128_S32x256x128_d3_4 h_S_

/-- The result: the sums over the sum of the weights. -/
def ry (o : T4o) (e : I5c) (l : T3) : FVec Idealize.ShloMosaic.Ideal S1x32768x2048 .bf16 :=
  truncf .bf16 (shapeCast _ (transpose S256x128x32x64 [1, 2, 0, 3] (mulf o (broadcastInDim S32x256x128x64 ![0, 1, 2, 3] bcast_S32x256x128x1_S32x256x128x64_0_1_2_3 (shapeCast _ (Host.divf (Host.powf (broadcastInDim S32x256x128x1x1 ![] bcast_S_S32x256x128x1x1 (constant S_ .f32 0x40000000#32)) (sitofp .f32 e)) (broadcastInDim S32x256x128x1x1 ![0, 1, 2] bcast_S32x256x128_S32x256x128x1x1_0_1_2 l)) shapeCasts_S32x256x128x1x1_S32x256x128x1))) transposes_S32x256x128x64_S256x128x32x64_1_2_0_3) shapeCasts_S256x128x32x64_S1x32768x2048) bitsLt_bf16_f32

variable (X K V : T0)

/-- The masked scores. -/
def logits : T5 := rmask rpos (rlog (rdot (codes X) (codes K)) (scales X) (scales K))

/-- The weights. -/
def probs : T5 := rprob (logits X K) (rmax5 (logits X K))

/-- The exponent of the weights. -/
def pexp : I5c := rpe (rb (rmax5 (probs X K)))

/-- The result. -/
def yref : FVec Idealize.ShloMosaic.Ideal S1x32768x2048 .bf16 :=
  ry (ro (rdo (rpc (probs X K) (pexp X K)) (codes V)) (scales V)) (pexp X K) (rl (probs X K))

variable (h : Fin 32) (i : Fin 256) (q : Fin 128)

/-- The indices of a query's keys: every block of keys and every key of it. -/
theorem fiber5 (j : S32x256x128x256x128.Idx) :
    reducesTo_S32x256x128x256x128_S32x256x128_d3_4.drop j = ix3 h i q ↔ ∃ k : Fin 256 × Fin 128, ix5 h i q k.1 k.2 = j := by
  constructor
  · intro e
    refine ⟨(j 3, j 4), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨k, rfl⟩
    funext a; apply Fin.ext
    match a with
    | ⟨0, _⟩ => rfl
    | ⟨1, _⟩ => rfl
    | ⟨2, _⟩ => rfl

/-- What bounds a query's largest: what bounds every key's. -/
theorem rmax5_le (g : T5) (B : EReal) : rmax5 g (ix3 h i q) ≤ B ↔ ∀ (n : Fin 256) (k : Fin 128), g (ix5 h i q n k) ≤ B := by
  have e : rmax5 g (ix3 h i q) = Finset.fold max (Ideal.ofBits FTy.f32 0xFF800000#32) g
      (Finset.univ.filter fun j => reducesTo_S32x256x128x256x128_S32x256x128_d3_4.drop j = ix3 h i q) := by
    pointwise [rmax5]
  rw [e, ofBits_bot, Finset.fold_max_le]
  constructor
  · intro hB n k
    exact hB.2 (ix5 h i q n k) (Finset.mem_filter.mpr ⟨Finset.mem_univ _, (fiber5 h i q _).mpr ⟨(n, k), rfl⟩⟩)
  · intro hB
    refine ⟨bot_le, fun j hj => ?_⟩
    obtain ⟨k, rfl⟩ := (fiber5 h i q j).mp (Finset.mem_filter.mp hj).2
    exact hB k.1 k.2

/-- A query's sum over its keys, block by block. -/
theorem rl_at (p : T5) : rl p (ix3 h i q) = ∑ n : Fin 256, ∑ k : Fin 128, p (ix5 h i q n k) := by
  have e : rl p (ix3 h i q) = Ideal.hostReduceAdd reducesTo_S32x256x128x256x128_S32x256x128_d3_4 p 0 (ix3 h i q) := by
    pointwise [rl]
  rw [e]
  have s : ∑ j ∈ Finset.univ.filter (fun j => reducesTo_S32x256x128x256x128_S32x256x128_d3_4.drop j = ix3 h i q), p j
      = ∑ n : Fin 256, ∑ k : Fin 128, p (ix5 h i q n k) := by
    refine (Finset.sum_filter_eq_sum_of_fiber _ (fun k : Fin 256 × Fin 128 => ix5 h i q k.1 k.2)
      (fun _ _ e => Prod.ext (congrFun e 3) (congrFun e 4)) (fiber5 h i q) p).trans ?_
    simp only [Fintype.sum_prod_type]
  exact (congrArg (0 + ·) s).trans (zero_add _)

/-- A position's word, read signed, is the position. -/
theorem pos_toInt (n : ℕ) (hn : n < 32768) : (BitVec.ofNat 32 n).toInt = n := by
  rw [BitVec.toInt_eq_toNat_of_lt] <;> rw [BitVec.toNat_ofNat, Nat.mod_eq_of_lt (by omega)]
  omega

/-- The mask keeps a key at most the query. -/
theorem sle_pos (a b : ℕ) (ha : a < 32768) (hb : b < 32768) :
    IntOp.cmpi CmpIPredicate.sle (BitVec.ofNat 32 a) (BitVec.ofNat 32 b) = if a ≤ b then 1#1 else 0#1 := by
  show BitVec.ofBool ((BitVec.ofNat 32 a).sle (BitVec.ofNat 32 b)) = _
  rw [BitVec.sle_eq_decide, pos_toInt a ha, pos_toInt b hb]
  by_cases h : a ≤ b
  · rw [if_pos h, decide_eq_true (by exact_mod_cast h)]; rfl
  · rw [if_neg h, decide_eq_false (by exact_mod_cast h)]; rfl

variable (n : Fin 256) (k : Fin 128)

/-- The score of a key, through the cap. -/
theorem rlog_at : rlog (rdot (codes X) (codes K)) (scales X) (scales K) (ix5 h i q n k)
    = ((50 * Real.tanh (zz X K h.val (i.val * 128 + q.val) (n.val * 128 + k.val)) : ℝ) : EReal) := by
  have d : rdot (codes X) (codes K) (ix5 h i q n k)
      = ((∑ l ∈ Finset.range 64, cd X (i.val * 128 + q.val) (h.val * 64 + l) * cd K (n.val * 128 + k.val) (h.val * 64 + l) : ℝ) : EReal) := by
    pointwise [rdot]
    rw [← A.coe_sum 64 (fun l => cd X (i.val * 128 + q.val) (h.val * 64 + l) * cd K (n.val * 128 + k.val) (h.val * 64 + l))]
    exact Finset.sum_congr rfl fun l _ => by rw [codes_at, codes_at, EReal.coe_mul]
  have e : rlog (rdot (codes X) (codes K)) (scales X) (scales K) (ix5 h i q n k) = Ideal.ofBits FTy.f32 0x42480000#32 *
      Ideal.tanh (Ideal.div (rdot (codes X) (codes K) (ix5 h i q n k) * (scales X (ix2 i h) * Ideal.ofBits FTy.f32 0x3E000000#32) * scales K (ix2 n h))
          (Ideal.ofBits FTy.f32 0x42480000#32)) := by
    pointwise [rlog]
  rw [e, d, scales_at, scales_at, ofBits_50, ofBits_eighth, ← EReal.coe_mul, ← EReal.coe_mul, ← EReal.coe_mul,
    Ideal.div_coe (by norm_num), ← EReal.coe_mul, Ideal.tanh_coe, ← EReal.coe_mul]
  congr 3
  unfold zz
  rw [show (i.val * 128 + q.val) / 128 = i.val by omega, show (n.val * 128 + k.val) / 128 = n.val by omega]
  rw [Finset.sum_congr rfl fun l _ => mul_comm (cd X (i.val * 128 + q.val) (h.val * 64 + l)) (cd K (n.val * 128 + k.val) (h.val * 64 + l))]
  ring

/-- The score of a key, masked. -/
theorem logits_at : logits X K (ix5 h i q n k) = if n.val * 128 + k.val ≤ i.val * 128 + q.val then
    ((50 * Real.tanh (zz X K h.val (i.val * 128 + q.val) (n.val * 128 + k.val)) : ℝ) : EReal) else ⊥ := by
  have e : ∀ (p : IVec S256x128 32) (g : T5), rmask p g (ix5 h i q n k) = Scalar.select (IntOp.cmpi CmpIPredicate.sle (p (ix2 n k)) (p (ix2 i q))) (g (ix5 h i q n k))
      (Ideal.ofBits FTy.f32 0xFF800000#32) := fun p g => by pointwise [rmask]
  have p : ∀ (a : Fin 256) (b : Fin 128), rpos (ix2 a b) = BitVec.ofNat 32 (a.val * 128 + b.val) := fun a b => by pointwise [rpos]
  unfold logits
  rw [e, p, p, rlog_at, ofBits_bot, sle_pos _ _ (by omega) (by omega)]
  by_cases hk : n.val * 128 + k.val ≤ i.val * 128 + q.val
  · rw [if_pos hk, if_pos hk]; rfl
  · rw [if_neg hk, if_neg hk]; rfl

/-- The largest score of a query. -/
theorem top_at : rmax5 (logits X K) (ix3 h i q)
    = ((50 * Real.tanh (zmax (zz X K h.val (i.val * 128 + q.val)) (i.val * 128 + q.val)) : ℝ) : EReal) := by
  refine eq_zmax (zz X K h.val (i.val * 128 + q.val)) (i.val * 128 + q.val) (fun x => 50 * Real.tanh x)
    (fun a b hab => mul_le_mul_of_nonneg_left (tanh_mono hab) (by norm_num)) _ fun B => ?_
  rw [rmax5_le]
  constructor
  · intro hB x hx
    have := hB ⟨x / 128, by omega⟩ ⟨x % 128, by omega⟩
    rw [logits_at] at this
    dsimp only at this
    rw [show x / 128 * 128 + x % 128 = x by omega, if_pos hx] at this
    exact this
  · intro hB n k
    rw [logits_at]
    by_cases hk : n.val * 128 + k.val ≤ i.val * 128 + q.val
    · rw [if_pos hk]; exact hB _ hk
    · rw [if_neg hk]; exact bot_le

/-- The weight of a key. -/
theorem probs_at : probs X K (ix5 h i q n k)
    = (prob (zz X K h.val (i.val * 128 + q.val)) (i.val * 128 + q.val) (n.val * 128 + k.val) : EReal) := by
  have e : ∀ (g : T5) (M : T3), rprob g M (ix5 h i q n k) = Ideal.exp (g (ix5 h i q n k) - M (ix3 h i q)) := fun g M => by pointwise [rprob]
  unfold probs
  rw [e, logits_at, top_at]
  unfold prob
  by_cases hk : n.val * 128 + k.val ≤ i.val * 128 + q.val
  · rw [if_pos hk, if_pos hk, ← EReal.coe_sub]; rfl
  · rw [if_neg hk, if_neg hk, EReal.bot_sub]; rfl

/-- The largest weight of a query is one. -/
theorem topp_at : rmax5 (probs X K) (ix3 h i q) = 1 := by
  refine le_antisymm ((rmax5_le h i q _ _).mpr fun n k => ?_) ?_
  · rw [probs_at]
    unfold prob
    by_cases hk : n.val * 128 + k.val ≤ i.val * 128 + q.val
    · rw [if_pos hk]
      have := tanh_mono (le_zmax (zz X K h.val (i.val * 128 + q.val)) hk)
      exact_mod_cast Real.exp_le_one_iff.mpr (by linarith)
    · rw [if_neg hk]; exact_mod_cast zero_le_one
  · obtain ⟨x, hx, ex⟩ := exists_zmax (zz X K h.val (i.val * 128 + q.val)) (i.val * 128 + q.val)
    have := (rmax5_le h i q (probs X K) _).mp le_rfl ⟨x / 128, by omega⟩ ⟨x % 128, by omega⟩
    rw [probs_at] at this
    dsimp only at this
    rw [show x / 128 * 128 + x % 128 = x by omega] at this
    unfold prob at this
    rw [if_pos hx, ex, sub_self, Real.exp_zero] at this
    exact this

/-- The exponent of the weights is −8. -/
theorem pexp_at : pexp X K (ix5 h i q 0 0) = (-8 : BitVec 32) := by
  have e : ∀ M : T5c, rpe M (ix5 h i q 0 0) = expo (M (ix5 h i q 0 0)) := fun M => by unfold rpe; pointwise; rfl
  have b : ∀ M : T3, rb M (ix5 h i q 0 0) = M (ix3 h i q) := fun M => by pointwise [rb]
  unfold pexp
  rw [e, b, topp_at, expo_one]

/-- The clipped weight code of a key. -/
theorem pcode_at : rpc (probs X K) (pexp X K) (ix5 h i q n k)
    = (clip (prob (zz X K h.val (i.val * 128 + q.val)) (i.val * 128 + q.val) (n.val * 128 + k.val) * 256) : EReal) := by
  have e : ∀ (p : T5) (e : I5c), rpc p e (ix5 h i q n k) = min (Ideal.ofBits .f32 0x43E00000#32) (max (Ideal.ofBits .f32 0xC3E00000#32)
      (p (ix5 h i q n k) * Ideal.pow (Ideal.ofBits .f32 0x40000000#32) (((-e (ix5 h i q 0 0)).toInt : ℝ) : EReal))) := fun p e => by
    pointwise [rpc]; rfl
  rw [e, pexp_at, pow_pw, pw_negneg8, ofBits_448, ofBits_neg448, probs_at, ← EReal.coe_mul, coe_clip]

/-- A query's sums under the value scales. -/
theorem ro_at (l : Fin 64) : ro (rdo (rpc (probs X K) (pexp X K)) (codes V)) (scales V) (ix4 h i q l)
    = ((∑ b ∈ Finset.range 256, (∑ r ∈ Finset.range 128, clip (prob (zz X K h.val (i.val * 128 + q.val)) (i.val * 128 + q.val) (b * 128 + r) * 256)
        * cd V (b * 128 + r) (h.val * 64 + l.val)) * scl V b h.val : ℝ) : EReal) := by
  have e : ∀ (a : T5o) (s : T2), ro a s (ix4 h i q l) = ∑ x, a (ix5 h x i q l) * s (ix2 x h) := fun a s => by pointwise [ro]
  have d : ∀ (p : T5) (v : T4) (n : Fin 256), rdo p v (ix5 h n i q l) = ∑ x, p (ix5 h i q n x) * v (ix4 n x h l) := fun p v n => by pointwise [rdo]
  rw [e, ← A.coe_sum 256 (fun b => (∑ r ∈ Finset.range 128, clip (prob (zz X K h.val (i.val * 128 + q.val)) (i.val * 128 + q.val) (b * 128 + r) * 256)
        * cd V (b * 128 + r) (h.val * 64 + l.val)) * scl V b h.val)]
  refine Finset.sum_congr rfl fun b _ => ?_
  rw [d, scales_at, EReal.coe_mul, ← A.coe_sum 128 (fun r => clip (prob (zz X K h.val (i.val * 128 + q.val)) (i.val * 128 + q.val) (b.val * 128 + r) * 256)
        * cd V (b.val * 128 + r) (h.val * 64 + l.val))]
  congr 1
  exact Finset.sum_congr rfl fun r _ => by rw [pcode_at, codes_at, EReal.coe_mul]

/-- The sum of a query's weights. -/
theorem rlp_at : rl (probs X K) (ix3 h i q)
    = ((∑ b ∈ Finset.range 256, ∑ r ∈ Finset.range 128, prob (zz X K h.val (i.val * 128 + q.val)) (i.val * 128 + q.val) (b * 128 + r) : ℝ) : EReal) := by
  rw [rl_at, ← A.coe_sum 256 (fun b => ∑ r ∈ Finset.range 128, prob (zz X K h.val (i.val * 128 + q.val)) (i.val * 128 + q.val) (b * 128 + r))]
  refine Finset.sum_congr rfl fun b _ => ?_
  rw [← A.coe_sum 128 (fun r => prob (zz X K h.val (i.val * 128 + q.val)) (i.val * 128 + q.val) (b.val * 128 + r))]
  exact Finset.sum_congr rfl fun r _ => probs_at X K h i q b r

/-- The result at token `s`, column `d`. -/
theorem yref_at (s : Fin 32768) (d : Fin 2048) : yref X K V (ix3 0 s d) = (yy X K V s.val d.val : EReal) := by
  have hs : s.val / 128 < 256 := by omega
  have hd : d.val / 64 < 32 := by omega
  have hq : s.val % 128 < 128 := by omega
  have hl : d.val % 64 < 64 := by omega
  have e : ∀ (o : T4o) (e : I5c) (l : T3), ry o e l (ix3 0 s d) = o (ix4 ⟨d.val / 64, hd⟩ ⟨s.val / 128, hs⟩ ⟨s.val % 128, hq⟩ ⟨d.val % 64, hl⟩) *
      Ideal.div (Ideal.pow (Ideal.ofBits FTy.f32 0x40000000#32) (((e (ix5 ⟨d.val / 64, hd⟩ ⟨s.val / 128, hs⟩ ⟨s.val % 128, hq⟩ 0 0)).toInt : ℝ) : EReal))
        (l (ix3 ⟨d.val / 64, hd⟩ ⟨s.val / 128, hs⟩ ⟨s.val % 128, hq⟩)) := fun o e l => by pointwise [ry]; rfl
  have hp := A.total_pos (zz X K (d.val / 64) s.val) s.val s.isLt
  unfold yref
  rw [e, ro_at, rlp_at, pexp_at, pow_pw, pw_neg8]
  dsimp only
  rw [show s.val / 128 * 128 + s.val % 128 = s.val by omega, show d.val / 64 * 64 + d.val % 64 = d.val by omega,
    Ideal.div_coe hp.ne', ← EReal.coe_mul, ← EReal.coe_mul]
  unfold yy attn
  rw [mul_one_div (1 / 256 : ℝ)]

end Cert.KProof.R
-- ==== Proof.Algebraic.lean ====
/- The value claim: over the extended reals the idealized kernel's seven results are the reference's. Each result of either
   program is read at an index and both readings are the same closed form. -/
module

public import proofs.«01_k».proof.Defs
public import proofs.«01_k».proof.Proof.KRun
public import proofs.«01_k».proof.Proof.AArr
public import proofs.«01_k».proof.Proof.RAttn
public import proofs.«01_k».proof.Proof.Gen.ReferenceIdeal.Run

@[expose] public section

set_option maxRecDepth 16384

noncomputable section

namespace Cert.KProof

open Idealize.ShloMosaic Idealize.ShloMosaic.TcCoe Idealize.SL.Sem Idealize.ShloMosaic.StableHlo

/-- Two arrays of one slab are equal when equal at every row and column. -/
theorem ext3 {a b : ℕ} {f g : (⟨3, ![1, a, b]⟩ : Shape).Idx → EReal} (h : ∀ (s : Fin a) (d : Fin b), f (ix3 0 s d) = g (ix3 0 s d)) : f = g :=
  funext fun i => by
    have e : i = ix3 0 (i 1) (i 2) := by
      refine (eq_ix3 i).trans ?_
      rw [show i 0 = (0 : Fin 1) from Subsingleton.elim (α := Fin 1) _ _]
      rfl
    rw [e]; exact h _ _

/-- Two arrays of one slab of rank four are equal when equal at every index. -/
theorem ext4 {a b d : ℕ} {f g : (⟨4, ![1, a, b, d]⟩ : Shape).Idx → EReal}
    (h : ∀ (s : Fin a) (x : Fin b) (y : Fin d), f (ix4 0 s x y) = g (ix4 0 s x y)) : f = g :=
  funext fun i => by
    have e : i = ix4 0 (i 1) (i 2) (i 3) := by
      refine (eq_ix4 i).trans ?_
      rw [show i 0 = (0 : Fin 1) from Subsingleton.elim (α := Fin 1) _ _]
      rfl
    rw [e]; exact h _ _ _

section Reference

open Cert.ReferenceIdeal Cert.ReferenceIdeal.Gen

/-- The idealized reference's run with its results in the readable form. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v155) = R.yref (m ((c.tc : Thread nD τ).loc main_arg0)) (m ((c.tc : Thread nD τ).loc main_arg1)) (m ((c.tc : Thread nD τ).loc main_arg2))
      ∧ r.2.mem ((c.tc : Thread nD τ).loc main_v157) = shapeCast _ (Host.convertf .fp8e4m3 (R.codes (m ((c.tc : Thread nD τ).loc main_arg0)))) shapeCasts_S256x128x32x64_S1x32768x32x64
      ∧ r.2.mem ((c.tc : Thread nD τ).loc main_v158) = shapeCast _ (R.scales (m ((c.tc : Thread nD τ).loc main_arg0))) shapeCasts_S256x32_S1x256x32
      ∧ r.2.mem ((c.tc : Thread nD τ).loc main_v160) = shapeCast _ (Host.convertf .fp8e4m3 (R.codes (m ((c.tc : Thread nD τ).loc main_arg1)))) shapeCasts_S256x128x32x64_S1x32768x32x64
      ∧ r.2.mem ((c.tc : Thread nD τ).loc main_v161) = shapeCast _ (R.scales (m ((c.tc : Thread nD τ).loc main_arg1))) shapeCasts_S256x32_S1x256x32
      ∧ r.2.mem ((c.tc : Thread nD τ).loc main_v163) = shapeCast _ (Host.convertf .fp8e4m3 (R.codes (m ((c.tc : Thread nD τ).loc main_arg2)))) shapeCasts_S256x128x32x64_S1x32768x32x64
      ∧ r.2.mem ((c.tc : Thread nD τ).loc main_v164) = shapeCast _ (R.scales (m ((c.tc : Thread nD τ).loc main_arg2))) shapeCasts_S256x32_S1x256x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Reference

section Kernel

open Cert.KernelIdeal Cert.KernelIdeal.Gen Cert.KProof.Q

variable (m : (ℓ : Loc nD τ sig) → Buf (Elt Ideal) ℓ) (ρ : Dev nD → PrngReg) (c : Dev nD)

/-- The kernel's attention result is the reference's. -/
theorem y_same : R.yref (aX m c) (aK m c) (aV m c) = W5 m ρ c (Proc.devRef .tc main_v11) :=
  ext3 fun s d => (R.yref_at _ _ _ s d).trans ((W5_y m ρ c s d).trans (A.W4_y m ρ c s d)).symm

/-- The kernel's query codes are the reference's. -/
theorem qc_same : (shapeCast _ (Host.convertf .fp8e4m3 (R.codes (aX m c))) Cert.ReferenceIdeal.Gen.shapeCasts_S256x128x32x64_S1x32768x32x64
    : FVec Ideal Cert.ReferenceIdeal.S1x32768x32x64 .fp8e4m3) = W5 m ρ c (Proc.devRef .tc main_v12) :=
  ext4 fun s h l => (R.codes4_at _ s h l).trans (W5_qc m ρ c s h l).symm

/-- The kernel's key codes are the reference's. -/
theorem kc_same : (shapeCast _ (Host.convertf .fp8e4m3 (R.codes (aK m c))) Cert.ReferenceIdeal.Gen.shapeCasts_S256x128x32x64_S1x32768x32x64
    : FVec Ideal Cert.ReferenceIdeal.S1x32768x32x64 .fp8e4m3) = W5 m ρ c (Proc.devRef .tc main_v15) :=
  ext4 fun s h l => (R.codes4_at _ s h l).trans (W5_kc m ρ c s h l).symm

/-- The kernel's value codes are the reference's. -/
theorem vc_same : (shapeCast _ (Host.convertf .fp8e4m3 (R.codes (aV m c))) Cert.ReferenceIdeal.Gen.shapeCasts_S256x128x32x64_S1x32768x32x64
    : FVec Ideal Cert.ReferenceIdeal.S1x32768x32x64 .fp8e4m3) = W5 m ρ c (Proc.devRef .tc main_v18) :=
  ext4 fun s h l => (R.codes4_at _ s h l).trans (W5_vc m ρ c s h l).symm

/-- The kernel's query scales are the reference's. -/
theorem qs_same : (shapeCast _ (R.scales (aX m c)) Cert.ReferenceIdeal.Gen.shapeCasts_S256x32_S1x256x32 : FVec Ideal Cert.ReferenceIdeal.S1x256x32 .f32)
    = W5 m ρ c (Proc.devRef .tc main_v14) :=
  ext3 fun b h => (R.scales3_at _ b h).trans (W5_qs m ρ c b h).symm

/-- The kernel's key scales are the reference's. -/
theorem ks_same : (shapeCast _ (R.scales (aK m c)) Cert.ReferenceIdeal.Gen.shapeCasts_S256x32_S1x256x32 : FVec Ideal Cert.ReferenceIdeal.S1x256x32 .f32)
    = W5 m ρ c (Proc.devRef .tc main_v17) :=
  ext3 fun b h => (R.scales3_at _ b h).trans (W5_ks m ρ c b h).symm

/-- The kernel's value scales are the reference's. -/
theorem vs_same : (shapeCast _ (R.scales (aV m c)) Cert.ReferenceIdeal.Gen.shapeCasts_S256x32_S1x256x32 : FVec Ideal Cert.ReferenceIdeal.S1x256x32 .f32)
    = W5 m ρ c (Proc.devRef .tc main_v20) :=
  ext3 fun b h => (R.scales3_at _ b h).trans (W5_vs m ρ c b h).symm

end Kernel

open Cert.KernelIdeal.Gen in
/-- From memories agreeing on the arguments, the idealized kernel and the idealized reference both run, end with their seven
    results equal element by element, and leave the arguments as they were. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => W5 m ρ c (Proc.devRef .tc Cert.KernelIdeal.main_v11), fun c => W5 m ρ c (Proc.devRef .tc Cert.KernelIdeal.main_v12),
    fun c => W5 m ρ c (Proc.devRef .tc Cert.KernelIdeal.main_v14), fun c => W5 m ρ c (Proc.devRef .tc Cert.KernelIdeal.main_v15),
    fun c => W5 m ρ c (Proc.devRef .tc Cert.KernelIdeal.main_v17), fun c => W5 m ρ c (Proc.devRef .tc Cert.KernelIdeal.main_v18),
    fun c => W5 m ρ c (Proc.devRef .tc Cert.KernelIdeal.main_v20), value_run m ρ, ?_⟩
  refine (θ_run _ _ _).mono (fun r h c => ?_) (ref_run m' ρ')
  obtain ⟨h0, h1, h2, h3, h4, h5, h6, ha⟩ := h c
  obtain ⟨e0, e1, e2⟩ := hagree c
  rw [e0, e1, e2] at h0
  rw [e0] at h1 h2
  rw [e1] at h3 h4
  rw [e2] at h5 h6
  exact ⟨h0.trans (y_same m ρ c), h1.trans (qc_same m ρ c), h2.trans (qs_same m ρ c), h3.trans (kc_same m ρ c),
    h4.trans (ks_same m ρ c), h5.trans (vc_same m ρ c), h6.trans (vs_same m ρ c), ha⟩

end Cert.KProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KProof.frame_p, Cert.KProof.frame_pi, Cert.KProof.frame_ri, Cert.KProof.preserves, Cert.KProof.algebraic⟩

end Cert.Proof

end
